-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![2, 256, 512]⟩ ⟨3, ![16, 256, 512]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 256]⟩ ⟨2, ![512, 2048]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![256, 512]⟩ ⟨2, ![2048, 512]⟩ 0 8 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = Layout.block ⟨3, ![2, 256, 512]⟩ ⟨3, ![16, 256, 512]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v44) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x256x512 : Shape := ⟨3, ![2, 256, 512]⟩
abbrev S512x256 : Shape := ⟨2, ![512, 256]⟩
abbrev S16x256x32x64 : Shape := ⟨4, ![16, 256, 32, 64]⟩
abbrev S256x512 : Shape := ⟨2, ![256, 512]⟩
abbrev S_ : Shape := ⟨0, ![]⟩
abbrev S2x256x32x64 : Shape := ⟨4, ![2, 256, 32, 64]⟩
abbrev S32x2x256x64 : Shape := ⟨4, ![32, 2, 256, 64]⟩
abbrev S8x512x256 : Shape := ⟨3, ![8, 512, 256]⟩
abbrev S8x256x512 : Shape := ⟨3, ![8, 256, 512]⟩
abbrev S8 : Shape := ⟨1, ![8]⟩
abbrev S6 : Shape := ⟨1, ![6]⟩
abbrev S256x256 : Shape := ⟨2, ![256, 256]⟩
abbrev S1x256x256 : Shape := ⟨3, ![1, 256, 256]⟩
abbrev S512x512 : Shape := ⟨2, ![512, 512]⟩
abbrev S1x512x256 : Shape := ⟨3, ![1, 512, 256]⟩
abbrev S1x256x512 : Shape := ⟨3, ![1, 256, 512]⟩
abbrev S1 : Shape := ⟨1, ![1]⟩
abbrev S1x2x256x64 : Shape := ⟨4, ![1, 2, 256, 64]⟩
abbrev S2x256x64 : Shape := ⟨3, ![2, 256, 64]⟩
abbrev S512x64 : Shape := ⟨2, ![512, 64]⟩
abbrev S2x256x256 : Shape := ⟨3, ![2, 256, 256]⟩
abbrev S2x256 : Shape := ⟨2, ![2, 256]⟩
abbrev S2x256x1 : Shape := ⟨3, ![2, 256, 1]⟩
abbrev S1x64x512 : Shape := ⟨3, ![1, 64, 512]⟩
abbrev S64x512 : Shape := ⟨2, ![64, 512]⟩

abbrev nBuf : Space → Nat
  | .hbm => 36
  | .vmem => 8
  | .smem => 0
  | _ => 0

abbrev bufTy : (tb : Table) → Fin (tcTables nBuf tb) → BufTy
  | .hbm, ⟨0, _⟩ => ⟨S2x256x512, .bf16⟩
  | .hbm, ⟨1, _⟩ => ⟨S512x256, .bf16⟩
  | .hbm, ⟨2, _⟩ => ⟨S16x256x32x64, .bf16⟩
  | .hbm, ⟨3, _⟩ => ⟨S16x256x32x64, .bf16⟩
  | .hbm, ⟨4, _⟩ => ⟨S256x512, .bf16⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S2x256x32x64, .bf16⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .i1⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S2x256x32x64, .bf16⟩
  | .hbm, ⟨33, _⟩ => ⟨S32x2x256x64, .bf16⟩
  | .hbm, ⟨34, _⟩ => ⟨S32x2x256x64, .bf16⟩
  | .hbm, ⟨35, _⟩ => ⟨S2x256x512, .f32⟩
  | .local _ .vmem, ⟨0, _⟩ => ⟨S2x256x512, .bf16⟩
  | .local _ .vmem, ⟨1, _⟩ => ⟨S512x256, .bf16⟩
  | .local _ .vmem, ⟨2, _⟩ => ⟨S32x2x256x64, .bf16⟩
  | .local _ .vmem, ⟨3, _⟩ => ⟨S32x2x256x64, .bf16⟩
  | .local _ .vmem, ⟨4, _⟩ => ⟨S256x512, .bf16⟩
  | .local _ .vmem, ⟨5, _⟩ => ⟨S2x256x512, .f32⟩
  | .local _ .vmem, ⟨6, _⟩ => ⟨S8x512x256, .bf16⟩
  | .local _ .vmem, ⟨7, _⟩ => ⟨S8x256x512, .bf16⟩
  | _, _ => ⟨S2x256x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  (ofTc nBuf bufTy 1 34 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_c_2 : Ref sig .tc := ⟨.hbm, 13, rfl⟩
abbrev main_v6 : Ref sig .tc := ⟨.hbm, 14, rfl⟩
abbrev main_c_3 : Ref sig .tc := ⟨.hbm, 15, rfl⟩
abbrev main_v7 : Ref sig .tc := ⟨.hbm, 16, rfl⟩
abbrev main_v8 : Ref sig .tc := ⟨.hbm, 17, rfl⟩
abbrev main_c_4 : Ref sig .tc := ⟨.hbm, 18, rfl⟩
abbrev main_c_5 : Ref sig .tc := ⟨.hbm, 19, rfl⟩
abbrev main_c_6 : Ref sig .tc := ⟨.hbm, 20, rfl⟩
abbrev main_v9 : Ref sig .tc := ⟨.hbm, 21, rfl⟩
abbrev main_c_7 : Ref sig .tc := ⟨.hbm, 22, rfl⟩
abbrev main_v10 : Ref sig .tc := ⟨.hbm, 23, rfl⟩
abbrev main_c_8 : Ref sig .tc := ⟨.hbm, 24, rfl⟩
abbrev main_v11 : Ref sig .tc := ⟨.hbm, 25, rfl⟩
abbrev main_c_9 : Ref sig .tc := ⟨.hbm, 26, rfl⟩
abbrev main_v12 : Ref sig .tc := ⟨.hbm, 27, rfl⟩
abbrev main_v13 : Ref sig .tc := ⟨.hbm, 28, rfl⟩
abbrev main_c_10 : Ref sig .tc := ⟨.hbm, 29, rfl⟩
abbrev main_c_11 : Ref sig .tc := ⟨.hbm, 30, rfl⟩
abbrev main_c_12 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_21 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_20 : BitVec 32 := 1#32
  let v64 : BitVec 32 := Scalar.muli v5 c1_i32_20
  let v65 : BitVec 32 := Scalar.addi c0_i32_21 v64
  v65.toNat
def k0_dev2 (d0 : Dev nD) : Nat :=
  let c0_i32_24 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_23 : BitVec 32 := 1#32
  let v66 : BitVec 32 := Scalar.muli v7 c1_i32_23
  let v67 : BitVec 32 := Scalar.addi c0_i32_24 v66
  v67.toNat
def k0_off1 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v70 : Index := Scalar.indexCast v2
  let c0_27 : Index := 0#32
  let c0_28 : Index := 0#32
  ![v70.toNat, 0, 0]
def k0_off2 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v76 : Index := Scalar.indexCast v2
  let c0_31 : Index := 0#32
  let c0_32 : Index := 0#32
  ![v76.toNat, 0, 0]
def k0_off3 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_37 : BitVec 32 := 0#32
  let c0_i32_38 : BitVec 32 := 0#32
  ![v2.toNat, 0, 0]
def k0_dev3 (d0 : Dev nD) : Nat :=
  let c0_i32_36 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_35 : BitVec 32 := 1#32
  let v80 : BitVec 32 := Scalar.muli v7 c1_i32_35
  let v81 : BitVec 32 := Scalar.addi c0_i32_36 v80
  v81.toNat
def k0_off4 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_45 : BitVec 32 := 0#32
  let c0_i32_46 : BitVec 32 := 0#32
  ![v2.toNat, 0, 0]
def k0_dev4 (d0 : Dev nD) : Nat :=
  let c0_i32_44 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_43 : BitVec 32 := 1#32
  let v90 : BitVec 32 := Scalar.muli v7 c1_i32_43
  let v91 : BitVec 32 := Scalar.addi c0_i32_44 v90
  v91.toNat
def k0_dev5 (d0 : Dev nD) : Nat :=
  let c0_i32_52 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_51 : BitVec 32 := 1#32
  let v100 : BitVec 32 := Scalar.muli v5 c1_i32_51
  let v101 : BitVec 32 := Scalar.addi c0_i32_52 v100
  v101.toNat
def k0_dev6 (d0 : Dev nD) : Nat :=
  let c0_i32_60 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_59 : BitVec 32 := 1#32
  let v110 : BitVec 32 := Scalar.muli v5 c1_i32_59
  let v111 : BitVec 32 := Scalar.addi c0_i32_60 v110
  v111.toNat
def k0_off5 (d0 : Dev nD) (c0_i32_68 : BitVec 32) : Fin 4 → Nat :=
  let c4_i32 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v126 : BitVec 32 := Scalar.muli c4_i32 v2
  let v127 : BitVec 32 := Scalar.addi v126 c0_i32_68
  let v128 : Index := Scalar.indexCast v127
  let c0_69 : Index := 0#32
  let c0_70 : Index := 0#32
  let c0_71 : Index := 0#32
  ![v128.toNat, 0, 0, 0]
def k0_off6 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v158 : Index := Scalar.indexCast v2
  let c0_83 : Index := 0#32
  let c0_84 : Index := 0#32
  ![v158.toNat, 0, 0]
def k0_off7 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v195 : Index := Scalar.indexCast v2
  let c64 : Index := 64#32
  let c0_102 : Index := 0#32
  ![v195.toNat, 64, 0]
def k0_off8 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v232 : Index := Scalar.indexCast v2
  let c128 : Index := 128#32
  let c0_120 : Index := 0#32
  ![v232.toNat, 128, 0]
def k0_off9 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v269 : Index := Scalar.indexCast v2
  let c192 : Index := 192#32
  let c0_137 : Index := 0#32
  ![v269.toNat, 192, 0]
def k0_off10 (d0 : Dev nD) (c0_i32_140 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_139 : BitVec 32 := 1#32
  let v274 : BitVec 32 := Scalar.subi v2 c1_i32_139
  let v275 : BitVec 32 := Scalar.subi v274 c0_i32_140
  let c8_i32_141 : BitVec 32 := 8#32
  let v276 : BitVec 32 := Scalar.addi v275 c8_i32_141
  let c8_i32_142 : BitVec 32 := 8#32
  let v277 : BitVec 32 := Scalar.remsi v276 c8_i32_142
  let c0_i32_163 : BitVec 32 := 0#32
  let c0_i32_164 : BitVec 32 := 0#32
  ![v277.toNat, 0, 0]
def k0_dev7 (d0 : Dev nD) : Nat :=
  let c0_i32_162 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_161 : BitVec 32 := 1#32
  let v294 : BitVec 32 := Scalar.muli v7 c1_i32_161
  let v295 : BitVec 32 := Scalar.addi c0_i32_162 v294
  v295.toNat
def k0_off11 (d0 : Dev nD) (c0_i32_140 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_139 : BitVec 32 := 1#32
  let v274 : BitVec 32 := Scalar.subi v2 c1_i32_139
  let v275 : BitVec 32 := Scalar.subi v274 c0_i32_140
  let c8_i32_141 : BitVec 32 := 8#32
  let v276 : BitVec 32 := Scalar.addi v275 c8_i32_141
  let c8_i32_142 : BitVec 32 := 8#32
  let v277 : BitVec 32 := Scalar.remsi v276 c8_i32_142
  let c0_i32_171 : BitVec 32 := 0#32
  let c0_i32_172 : BitVec 32 := 0#32
  ![v277.toNat, 0, 0]
def k0_dev8 (d0 : Dev nD) : Nat :=
  let c0_i32_170 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_169 : BitVec 32 := 1#32
  let v304 : BitVec 32 := Scalar.muli v7 c1_i32_169
  let v305 : BitVec 32 := Scalar.addi c0_i32_170 v304
  v305.toNat
def k0_off12 (d0 : Dev nD) (c0_i32_176 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_175 : BitVec 32 := 1#32
  let v314 : BitVec 32 := Scalar.addi v2 c1_i32_175
  let v315 : BitVec 32 := Scalar.addi v314 c0_i32_176
  let c8_i32_177 : BitVec 32 := 8#32
  let v316 : BitVec 32 := Scalar.remsi v315 c8_i32_177
  let c0_i32_198 : BitVec 32 := 0#32
  let c0_i32_199 : BitVec 32 := 0#32
  ![v316.toNat, 0, 0]
def k0_dev9 (d0 : Dev nD) : Nat :=
  let c0_i32_197 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_196 : BitVec 32 := 1#32
  let v333 : BitVec 32 := Scalar.muli v5 c1_i32_196
  let v334 : BitVec 32 := Scalar.addi c0_i32_197 v333
  v334.toNat
def k0_off13 (d0 : Dev nD) (c0_i32_176 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_175 : BitVec 32 := 1#32
  let v314 : BitVec 32 := Scalar.addi v2 c1_i32_175
  let v315 : BitVec 32 := Scalar.addi v314 c0_i32_176
  let c8_i32_177 : BitVec 32 := 8#32
  let v316 : BitVec 32 := Scalar.remsi v315 c8_i32_177
  let c0_i32_206 : BitVec 32 := 0#32
  let c0_i32_207 : BitVec 32 := 0#32
  ![v316.toNat, 0, 0]
def k0_dev10 (d0 : Dev nD) : Nat :=
  let c0_i32_205 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_204 : BitVec 32 := 1#32
  let v343 : BitVec 32 := Scalar.muli v5 c1_i32_204
  let v344 : BitVec 32 := Scalar.addi c0_i32_205 v343
  v344.toNat
def k0_off14 (d0 : Dev nD) (c0_i32_140 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_139 : BitVec 32 := 1#32
  let v274 : BitVec 32 := Scalar.subi v2 c1_i32_139
  let v275 : BitVec 32 := Scalar.subi v274 c0_i32_140
  let c8_i32_141 : BitVec 32 := 8#32
  let v276 : BitVec 32 := Scalar.addi v275 c8_i32_141
  let c8_i32_142 : BitVec 32 := 8#32
  let v277 : BitVec 32 := Scalar.remsi v276 c8_i32_142
  let v353 : Index := Scalar.indexCast v277
  let c0_210 : Index := 0#32
  let c0_211 : Index := 0#32
  ![v353.toNat, 0, 0]
def k0_off15 (d0 : Dev nD) (c0_i32_140 : BitVec 32) (c0_i32_214 : BitVec 32) : Fin 4 → Nat :=
  let c4_i32_213 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_139 : BitVec 32 := 1#32
  let v274 : BitVec 32 := Scalar.subi v2 c1_i32_139
  let v275 : BitVec 32 := Scalar.subi v274 c0_i32_140
  let c8_i32_141 : BitVec 32 := 8#32
  let v276 : BitVec 32 := Scalar.addi v275 c8_i32_141
  let c8_i32_142 : BitVec 32 := 8#32
  let v277 : BitVec 32 := Scalar.remsi v276 c8_i32_142
  let v358 : BitVec 32 := Scalar.muli c4_i32_213 v277
  let v359 : BitVec 32 := Scalar.addi v358 c0_i32_214
  let v360 : Index := Scalar.indexCast v359
  let c0_215 : Index := 0#32
  let c0_216 : Index := 0#32
  let c0_217 : Index := 0#32
  ![v360.toNat, 0, 0, 0]
def k0_off16 (d0 : Dev nD) (c0_i32_140 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_139 : BitVec 32 := 1#32
  let v274 : BitVec 32 := Scalar.subi v2 c1_i32_139
  let v275 : BitVec 32 := Scalar.subi v274 c0_i32_140
  let c8_i32_141 : BitVec 32 := 8#32
  let v276 : BitVec 32 := Scalar.addi v275 c8_i32_141
  let c8_i32_142 : BitVec 32 := 8#32
  let v277 : BitVec 32 := Scalar.remsi v276 c8_i32_142
  let v390 : Index := Scalar.indexCast v277
  let c0_229 : Index := 0#32
  let c0_230 : Index := 0#32
  ![v390.toNat, 0, 0]
def k0_off17 (d0 : Dev nD) (c0_i32_140 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_139 : BitVec 32 := 1#32
  let v274 : BitVec 32 := Scalar.subi v2 c1_i32_139
  let v275 : BitVec 32 := Scalar.subi v274 c0_i32_140
  let c8_i32_141 : BitVec 32 := 8#32
  let v276 : BitVec 32 := Scalar.addi v275 c8_i32_141
  let c8_i32_142 : BitVec 32 := 8#32
  let v277 : BitVec 32 := Scalar.remsi v276 c8_i32_142
  let v427 : Index := Scalar.indexCast v277
  let c64_248 : Index := 64#32
  let c0_249 : Index := 0#32
  ![v427.toNat, 64, 0]
def k0_off18 (d0 : Dev nD) (c0_i32_140 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_139 : BitVec 32 := 1#32
  let v274 : BitVec 32 := Scalar.subi v2 c1_i32_139
  let v275 : BitVec 32 := Scalar.subi v274 c0_i32_140
  let c8_i32_141 : BitVec 32 := 8#32
  let v276 : BitVec 32 := Scalar.addi v275 c8_i32_141
  let c8_i32_142 : BitVec 32 := 8#32
  let v277 : BitVec 32 := Scalar.remsi v276 c8_i32_142
  let v464 : Index := Scalar.indexCast v277
  let c128_267 : Index := 128#32
  let c0_268 : Index := 0#32
  ![v464.toNat, 128, 0]
def k0_off19 (d0 : Dev nD) (c0_i32_140 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_139 : BitVec 32 := 1#32
  let v274 : BitVec 32 := Scalar.subi v2 c1_i32_139
  let v275 : BitVec 32 := Scalar.subi v274 c0_i32_140
  let c8_i32_141 : BitVec 32 := 8#32
  let v276 : BitVec 32 := Scalar.addi v275 c8_i32_141
  let c8_i32_142 : BitVec 32 := 8#32
  let v277 : BitVec 32 := Scalar.remsi v276 c8_i32_142
  let v501 : Index := Scalar.indexCast v277
  let c192_286 : Index := 192#32
  let c0_287 : Index := 0#32
  ![v501.toNat, 192, 0]
def k0_off20 (d0 : Dev nD) (c0_i32_176 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_175 : BitVec 32 := 1#32
  let v314 : BitVec 32 := Scalar.addi v2 c1_i32_175
  let v315 : BitVec 32 := Scalar.addi v314 c0_i32_176
  let c8_i32_177 : BitVec 32 := 8#32
  let v316 : BitVec 32 := Scalar.remsi v315 c8_i32_177
  let v506 : Index := Scalar.indexCast v316
  let c0_289 : Index := 0#32
  let c0_290 : Index := 0#32
  ![v506.toNat, 0, 0]
def k0_off21 (d0 : Dev nD) (c0_i32_176 : BitVec 32) (c0_i32_293 : BitVec 32) : Fin 4 → Nat :=
  let c4_i32_292 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_175 : BitVec 32 := 1#32
  let v314 : BitVec 32 := Scalar.addi v2 c1_i32_175
  let v315 : BitVec 32 := Scalar.addi v314 c0_i32_176
  let c8_i32_177 : BitVec 32 := 8#32
  let v316 : BitVec 32 := Scalar.remsi v315 c8_i32_177
  let v511 : BitVec 32 := Scalar.muli c4_i32_292 v316
  let v512 : BitVec 32 := Scalar.addi v511 c0_i32_293
  let v513 : Index := Scalar.indexCast v512
  let c0_294 : Index := 0#32
  let c0_295 : Index := 0#32
  let c0_296 : Index := 0#32
  ![v513.toNat, 0, 0, 0]
def k0_off22 (d0 : Dev nD) (c0_i32_176 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_175 : BitVec 32 := 1#32
  let v314 : BitVec 32 := Scalar.addi v2 c1_i32_175
  let v315 : BitVec 32 := Scalar.addi v314 c0_i32_176
  let c8_i32_177 : BitVec 32 := 8#32
  let v316 : BitVec 32 := Scalar.remsi v315 c8_i32_177
  let v543 : Index := Scalar.indexCast v316
  let c0_308 : Index := 0#32
  let c0_309 : Index := 0#32
  ![v543.toNat, 0, 0]
def k0_off23 (d0 : Dev nD) (c0_i32_176 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_175 : BitVec 32 := 1#32
  let v314 : BitVec 32 := Scalar.addi v2 c1_i32_175
  let v315 : BitVec 32 := Scalar.addi v314 c0_i32_176
  let c8_i32_177 : BitVec 32 := 8#32
  let v316 : BitVec 32 := Scalar.remsi v315 c8_i32_177
  let v580 : Index := Scalar.indexCast v316
  let c64_327 : Index := 64#32
  let c0_328 : Index := 0#32
  ![v580.toNat, 64, 0]
def k0_off24 (d0 : Dev nD) (c0_i32_176 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_175 : BitVec 32 := 1#32
  let v314 : BitVec 32 := Scalar.addi v2 c1_i32_175
  let v315 : BitVec 32 := Scalar.addi v314 c0_i32_176
  let c8_i32_177 : BitVec 32 := 8#32
  let v316 : BitVec 32 := Scalar.remsi v315 c8_i32_177
  let v617 : Index := Scalar.indexCast v316
  let c128_346 : Index := 128#32
  let c0_347 : Index := 0#32
  ![v617.toNat, 128, 0]
def k0_off25 (d0 : Dev nD) (c0_i32_176 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_175 : BitVec 32 := 1#32
  let v314 : BitVec 32 := Scalar.addi v2 c1_i32_175
  let v315 : BitVec 32 := Scalar.addi v314 c0_i32_176
  let c8_i32_177 : BitVec 32 := 8#32
  let v316 : BitVec 32 := Scalar.remsi v315 c8_i32_177
  let v654 : Index := Scalar.indexCast v316
  let c192_365 : Index := 192#32
  let c0_366 : Index := 0#32
  ![v654.toNat, 192, 0]
def k0_dev11 (d0 : Dev nD) : Nat :=
  let c0_i32_391 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_390 : BitVec 32 := 1#32
  let v679 : BitVec 32 := Scalar.muli v7 c1_i32_390
  let v680 : BitVec 32 := Scalar.addi c0_i32_391 v679
  v680.toNat
def k0_dev12 (d0 : Dev nD) : Nat :=
  let c0_i32_398 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_397 : BitVec 32 := 1#32
  let v689 : BitVec 32 := Scalar.muli v7 c1_i32_397
  let v690 : BitVec 32 := Scalar.addi c0_i32_398 v689
  v690.toNat
def k0_dev13 (d0 : Dev nD) : Nat :=
  let c0_i32_425 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_424 : BitVec 32 := 1#32
  let v718 : BitVec 32 := Scalar.muli v5 c1_i32_424
  let v719 : BitVec 32 := Scalar.addi c0_i32_425 v718
  v719.toNat
def k0_dev14 (d0 : Dev nD) : Nat :=
  let c0_i32_433 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_432 : BitVec 32 := 1#32
  let v728 : BitVec 32 := Scalar.muli v5 c1_i32_432
  let v729 : BitVec 32 := Scalar.addi c0_i32_433 v728
  v729.toNat
def k0_dev15 (d0 : Dev nD) : Nat :=
  let c0_i32_618 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_617 : BitVec 32 := 1#32
  let v1064 : BitVec 32 := Scalar.muli v7 c1_i32_617
  let v1065 : BitVec 32 := Scalar.addi c0_i32_618 v1064
  v1065.toNat
def k0_dev16 (d0 : Dev nD) : Nat :=
  let c0_i32_625 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_624 : BitVec 32 := 1#32
  let v1074 : BitVec 32 := Scalar.muli v7 c1_i32_624
  let v1075 : BitVec 32 := Scalar.addi c0_i32_625 v1074
  v1075.toNat
abbrev stage0_0 : Fin 1 → Memref sig .tc .vmem S2x256x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x2x256x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32x2x256x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S16x256x512 : Shape := ⟨3, ![16, 256, 512]⟩
abbrev S512x2048 : Shape := ⟨2, ![512, 2048]⟩
abbrev S16x256x32x64 : Shape := ⟨4, ![16, 256, 32, 64]⟩
abbrev S2048x512 : Shape := ⟨2, ![2048, 512]⟩
abbrev S16x256x2048 : Shape := ⟨3, ![16, 256, 2048]⟩
abbrev S256 : Shape := ⟨1, ![256]⟩
abbrev S_ : Shape := ⟨0, ![]⟩
abbrev S256x1 : Shape := ⟨2, ![256, 1]⟩
abbrev S1x256 : Shape := ⟨2, ![1, 256]⟩
abbrev S256x256 : Shape := ⟨2, ![256, 256]⟩
abbrev S16x32x256x256 : Shape := ⟨4, ![16, 32, 256, 256]⟩
abbrev S1x1x256x256 : Shape := ⟨4, ![1, 1, 256, 256]⟩
abbrev S16x32x256 : Shape := ⟨3, ![16, 32, 256]⟩
abbrev S16x32x256x1 : Shape := ⟨4, ![16, 32, 256, 1]⟩
abbrev S1x1x256x1 : Shape := ⟨4, ![1, 1, 256, 1]⟩
abbrev S16x32x64x256 : Shape := ⟨4, ![16, 32, 64, 256]⟩

abbrev nBuf : Space → Nat
  | .hbm => 142
  | .vmem => 0
  | .smem => 0
  | _ => 0

abbrev hbmTy0_0 (i : Nat) : BufTy := match i % 128 with
  | 0 => ⟨S16x256x512, .bf16⟩
  | 1 => ⟨S512x2048, .bf16⟩
  | 2 => ⟨S16x256x32x64, .bf16⟩
  | 3 => ⟨S16x256x32x64, .bf16⟩
  | 4 => ⟨S2048x512, .bf16⟩
  | 5 => ⟨S16x256x2048, .f32⟩
  | 6 => ⟨S16x256x2048, .bf16⟩
  | 7 => ⟨S16x256x32x64, .bf16⟩
  | 8 => ⟨S256, .i32⟩
  | 9 => ⟨S_, .i32⟩
  | 10 => ⟨S_, .i32⟩
  | 11 => ⟨S256, .i32⟩
  | 12 => ⟨S256, .i32⟩
  | 13 => ⟨S256, .i32⟩
  | 14 => ⟨S_, .i32⟩
  | 15 => ⟨S256, .i32⟩
  | 16 => ⟨S256, .i1⟩
  | 17 => ⟨S256, .i32⟩
  | 18 => ⟨S256, .i32⟩
  | 19 => ⟨S_, .i32⟩
  | 20 => ⟨S256, .i32⟩
  | 21 => ⟨S256, .i1⟩
  | 22 => ⟨S256, .i1⟩
  | 23 => ⟨S_, .i32⟩
  | 24 => ⟨S256, .i32⟩
  | 25 => ⟨S256, .i32⟩
  | 26 => ⟨S256, .i32⟩
  | 27 => ⟨S256x1, .i32⟩
  | 28 => ⟨S256, .i32⟩
  | 29 => ⟨S_, .i32⟩
  | 30 => ⟨S_, .i32⟩
  | 31 => ⟨S256, .i32⟩
  | 32 => ⟨S256, .i32⟩
  | 33 => ⟨S256, .i32⟩
  | 34 => ⟨S_, .i32⟩
  | 35 => ⟨S256, .i32⟩
  | 36 => ⟨S256, .i1⟩
  | 37 => ⟨S256, .i32⟩
  | 38 => ⟨S256, .i32⟩
  | 39 => ⟨S_, .i32⟩
  | 40 => ⟨S256, .i32⟩
  | 41 => ⟨S256, .i1⟩
  | 42 => ⟨S256, .i1⟩
  | 43 => ⟨S_, .i32⟩
  | 44 => ⟨S256, .i32⟩
  | 45 => ⟨S256, .i32⟩
  | 46 => ⟨S256, .i32⟩
  | 47 => ⟨S1x256, .i32⟩
  | 48 => ⟨S256x256, .i32⟩
  | 49 => ⟨S256x256, .i32⟩
  | 50 => ⟨S256x256, .i1⟩
  | 51 => ⟨S_, .i32⟩
  | 52 => ⟨S_, .i32⟩
  | 53 => ⟨S_, .i32⟩
  | 54 => ⟨S_, .i1⟩
  | 55 => ⟨S_, .i32⟩
  | 56 => ⟨S_, .i32⟩
  | 57 => ⟨S1x256, .i32⟩
  | 58 => ⟨S1x256, .i32⟩
  | 59 => ⟨S_, .i32⟩
  | 60 => ⟨S1x256, .i32⟩
  | 61 => ⟨S1x256, .i1⟩
  | 62 => ⟨S_, .i32⟩
  | 63 => ⟨S1x256, .i32⟩
  | 64 => ⟨S1x256, .i1⟩
  | 65 => ⟨S_, .i32⟩
  | 66 => ⟨S_, .i1⟩
  | 67 => ⟨S1x256, .i1⟩
  | 68 => ⟨S1x256, .i1⟩
  | 69 => ⟨S1x256, .i1⟩
  | 70 => ⟨S1x256, .i32⟩
  | 71 => ⟨S1x256, .i32⟩
  | 72 => ⟨S1x256, .i32⟩
  | 73 => ⟨S_, .i32⟩
  | 74 => ⟨S_, .i32⟩
  | 75 => ⟨S_, .i32⟩
  | 76 => ⟨S_, .i1⟩
  | 77 => ⟨S_, .i32⟩
  | 78 => ⟨S_, .i32⟩
  | 79 => ⟨S256x1, .i32⟩
  | 80 => ⟨S256x1, .i32⟩
  | 81 => ⟨S_, .i32⟩
  | 82 => ⟨S256x1, .i32⟩
  | 83 => ⟨S256x1, .i1⟩
  | 84 => ⟨S_, .i32⟩
  | 85 => ⟨S256x1, .i32⟩
  | 86 => ⟨S256x1, .i1⟩
  | 87 => ⟨S_, .i32⟩
  | 88 => ⟨S_, .i1⟩
  | 89 => ⟨S256x1, .i1⟩
  | 90 => ⟨S256x1, .i1⟩
  | 91 => ⟨S256x1, .i1⟩
  | 92 => ⟨S256x1, .i32⟩
  | 93 => ⟨S256x1, .i32⟩
  | 94 => ⟨S256x1, .i32⟩
  | 95 => ⟨S256x256, .i32⟩
  | 96 => ⟨S256x256, .i32⟩
  | 97 => ⟨S256x256, .i1⟩
  | 98 => ⟨S256x256, .i1⟩
  | 99 => ⟨S16x32x256x256, .f32⟩
  | 100 => ⟨S16x32x256x256, .bf16⟩
  | 101 => ⟨S16x32x256x256, .f32⟩
  | 102 => ⟨S_, .f32⟩
  | 103 => ⟨S16x32x256x256, .f32⟩
  | 104 => ⟨S16x32x256x256, .f32⟩
  | 105 => ⟨S1x1x256x256, .i1⟩
  | 106 => ⟨S_, .f32⟩
  | 107 => ⟨S_, .f32⟩
  | 108 => ⟨S16x32x256x256, .i1⟩
  | 109 => ⟨S16x32x256x256, .f32⟩
  | 110 => ⟨S16x32x256x256, .f32⟩
  | 111 => ⟨S_, .f32⟩
  | 112 => ⟨S16x32x256, .f32⟩
  | 113 => ⟨S16x32x256x1, .f32⟩
  | 114 => ⟨S16x32x256x256, .f32⟩
  | 115 => ⟨S16x32x256x256, .f32⟩
  | 116 => ⟨S16x32x256x256, .f32⟩
  | 117 => ⟨S_, .i1⟩
  | 118 => ⟨S256, .i1⟩
  | 119 => ⟨S1x1x256x1, .i1⟩
  | 120 => ⟨S_, .f32⟩
  | 121 => ⟨S16x32x256, .f32⟩
  | 122 => ⟨S16x32x256x1, .f32⟩
  | 123 => ⟨S_, .f32⟩
  | 124 => ⟨S_, .f32⟩
  | 125 => ⟨S16x32x256x1, .i1⟩
  | 126 => ⟨S16x32x256x1, .f32⟩
  | 127 => ⟨S16x32x256x1, .f32⟩
  | _ => ⟨S16x256x512, .bf16⟩

abbrev hbmTy0_1 (i : Nat) : BufTy := match i % 128 with
  | 0 => ⟨S16x32x256x256, .f32⟩
  | 1 => ⟨S16x32x256x256, .f32⟩
  | 2 => ⟨S1x1x256x1, .i1⟩
  | 3 => ⟨S_, .f32⟩
  | 4 => ⟨S_, .f32⟩
  | 5 => ⟨S16x32x256x256, .i1⟩
  | 6 => ⟨S16x32x256x256, .f32⟩
  | 7 => ⟨S16x32x256x256, .f32⟩
  | 8 => ⟨S16x256x32x64, .f32⟩
  | 9 => ⟨S16x32x64x256, .f32⟩
  | 10 => ⟨S16x256x32x64, .f32⟩
  | 11 => ⟨S16x256x2048, .f32⟩
  | 12 => ⟨S2048x512, .f32⟩
  | 13 => ⟨S16x256x512, .f32⟩
  | _ => ⟨S16x256x512, .bf16⟩

abbrev hbmTy (i : Nat) : BufTy := match i / 128 with
  | 0 => hbmTy0_0 i
  | 1 => hbmTy0_1 i
  | _ => ⟨S16x256x512, .bf16⟩

abbrev bufTy : (tb : Table) → Fin (tcTables nBuf tb) → BufTy
  | .hbm, ⟨i, _⟩ => hbmTy i
  | _, _ => ⟨S16x256x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_c : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_0 : Ref sig .tc := ⟨.hbm, 23, rfl⟩
abbrev main_call0_v12 : Ref sig .tc := ⟨.hbm, 24, rfl⟩
abbrev main_call0_v13 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_c_0 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_v6 : Ref sig .tc := ⟨.hbm, 36, rfl⟩
abbrev main_call1_v7 : Ref sig .tc := ⟨.hbm, 37, rfl⟩
abbrev main_call1_v8 : Ref sig .tc := ⟨.hbm, 38, rfl⟩
abbrev main_call1_c : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_c_0 : Ref sig .tc := ⟨.hbm, 43, rfl⟩
abbrev main_call1_v12 : Ref sig .tc := ⟨.hbm, 44, rfl⟩
abbrev main_call1_v13 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_c_1 : Ref sig .tc := ⟨.hbm, 51, rfl⟩
abbrev main_call2_v0 : Ref sig .tc := ⟨.hbm, 52, rfl⟩
abbrev main_call2_c : Ref sig .tc := ⟨.hbm, 53, rfl⟩
abbrev main_call2_v1 : Ref sig .tc := ⟨.hbm, 54, rfl⟩
abbrev main_call2_c_0 : Ref sig .tc := ⟨.hbm, 55, rfl⟩
abbrev main_call2_v2 : Ref sig .tc := ⟨.hbm, 56, rfl⟩
abbrev main_call2_v3 : Ref sig .tc := ⟨.hbm, 57, rfl⟩
abbrev main_call2_v4 : Ref sig .tc := ⟨.hbm, 58, rfl⟩
abbrev main_call2_c_1 : Ref sig .tc := ⟨.hbm, 59, rfl⟩
abbrev main_call2_v5 : Ref sig .tc := ⟨.hbm, 60, rfl⟩
abbrev main_call2_v6 : Ref sig .tc := ⟨.hbm, 61, rfl⟩
abbrev main_call2_c_2 : Ref sig .tc := ⟨.hbm, 62, rfl⟩
abbrev main_call2_v7 : Ref sig .tc := ⟨.hbm, 63, rfl⟩
abbrev main_call2_v8 : Ref sig .tc := ⟨.hbm, 64, rfl⟩
abbrev main_call2_c_3 : Ref sig .tc := ⟨.hbm, 65, rfl⟩
abbrev main_call2_v9 : Ref sig .tc := ⟨.hbm, 66, rfl⟩
abbrev main_call2_v10 : Ref sig .tc := ⟨.hbm, 67, rfl⟩
abbrev main_call2_v11 : Ref sig .tc := ⟨.hbm, 68, rfl⟩
abbrev main_call2_v12 : Ref sig .tc := ⟨.hbm, 69, rfl⟩
abbrev main_call2_v13 : Ref sig .tc := ⟨.hbm, 70, rfl⟩
abbrev main_call2_v14 : Ref sig .tc := ⟨.hbm, 71, rfl⟩
abbrev main_v12 : Ref sig .tc := ⟨.hbm, 72, rfl⟩
abbrev main_c_2 : Ref sig .tc := ⟨.hbm, 73, rfl⟩
abbrev main_call3_v0 : Ref sig .tc := ⟨.hbm, 74, rfl⟩
abbrev main_call3_c : Ref sig .tc := ⟨.hbm, 75, rfl⟩
abbrev main_call3_v1 : Ref sig .tc := ⟨.hbm, 76, rfl⟩
abbrev main_call3_c_0 : Ref sig .tc := ⟨.hbm, 77, rfl⟩
abbrev main_call3_v2 : Ref sig .tc := ⟨.hbm, 78, rfl⟩
abbrev main_call3_v3 : Ref sig .tc := ⟨.hbm, 79, rfl⟩
abbrev main_call3_v4 : Ref sig .tc := ⟨.hbm, 80, rfl⟩
abbrev main_call3_c_1 : Ref sig .tc := ⟨.hbm, 81, rfl⟩
abbrev main_call3_v5 : Ref sig .tc := ⟨.hbm, 82, rfl⟩
abbrev main_call3_v6 : Ref sig .tc := ⟨.hbm, 83, rfl⟩
abbrev main_call3_c_2 : Ref sig .tc := ⟨.hbm, 84, rfl⟩
abbrev main_call3_v7 : Ref sig .tc := ⟨.hbm, 85, rfl⟩
abbrev main_call3_v8 : Ref sig .tc := ⟨.hbm, 86, rfl⟩
abbrev main_call3_c_3 : Ref sig .tc := ⟨.hbm, 87, rfl⟩
abbrev main_call3_v9 : Ref sig .tc := ⟨.hbm, 88, rfl⟩
abbrev main_call3_v10 : Ref sig .tc := ⟨.hbm, 89, rfl⟩
abbrev main_call3_v11 : Ref sig .tc := ⟨.hbm, 90, rfl⟩
abbrev main_call3_v12 : Ref sig .tc := ⟨.hbm, 91, rfl⟩
abbrev main_call3_v13 : Ref sig .tc := ⟨.hbm, 92, rfl⟩
abbrev main_call3_v14 : Ref sig .tc := ⟨.hbm, 93, rfl⟩
abbrev main_v13 : Ref sig .tc := ⟨.hbm, 94, rfl⟩
abbrev main_v14 : Ref sig .tc := ⟨.hbm, 95, rfl⟩
abbrev main_v15 : Ref sig .tc := ⟨.hbm, 96, rfl⟩
abbrev main_v16 : Ref sig .tc := ⟨.hbm, 97, rfl⟩
abbrev main_v17 : Ref sig .tc := ⟨.hbm, 98, rfl⟩
abbrev main_v18 : Ref sig .tc := ⟨.hbm, 99, rfl⟩
abbrev main_v19 : Ref sig .tc := ⟨.hbm, 100, rfl⟩
abbrev main_v20 : Ref sig .tc := ⟨.hbm, 101, rfl⟩
abbrev main_cst : Ref sig .tc := ⟨.hbm, 102, rfl⟩
abbrev main_v21 : Ref sig .tc := ⟨.hbm, 103, rfl⟩
abbrev main_v22 : Ref sig .tc := ⟨.hbm, 104, rfl⟩
abbrev main_v23 : Ref sig .tc := ⟨.hbm, 105, rfl⟩
abbrev main_cst_3 : Ref sig .tc := ⟨.hbm, 106, rfl⟩
abbrev main_call4_v0 : Ref sig .tc := ⟨.hbm, 107, rfl⟩
abbrev main_call4_v1 : Ref sig .tc := ⟨.hbm, 108, rfl⟩
abbrev main_call4_v2 : Ref sig .tc := ⟨.hbm, 109, rfl⟩
abbrev main_v24 : Ref sig .tc := ⟨.hbm, 110, rfl⟩
abbrev main_cst_4 : Ref sig .tc := ⟨.hbm, 111, rfl⟩
abbrev main_v25 : Ref sig .tc := ⟨.hbm, 112, rfl⟩
abbrev main_v26 : Ref sig .tc := ⟨.hbm, 113, rfl⟩
abbrev main_v27 : Ref sig .tc := ⟨.hbm, 114, rfl⟩
abbrev main_v28 : Ref sig .tc := ⟨.hbm, 115, rfl⟩
abbrev main_v29 : Ref sig .tc := ⟨.hbm, 116, rfl⟩
abbrev main_c_5 : Ref sig .tc := ⟨.hbm, 117, rfl⟩
abbrev main_v30 : Ref sig .tc := ⟨.hbm, 118, rfl⟩
abbrev main_v31 : Ref sig .tc := ⟨.hbm, 119, rfl⟩
abbrev main_cst_6 : Ref sig .tc := ⟨.hbm, 120, rfl⟩
abbrev main_v32 : Ref sig .tc := ⟨.hbm, 121, rfl⟩
abbrev main_v33 : Ref sig .tc := ⟨.hbm, 122, rfl⟩
abbrev main_cst_7 : Ref sig .tc := ⟨.hbm, 123, rfl⟩
abbrev main_call5_v0 : Ref sig .tc := ⟨.hbm, 124, rfl⟩
abbrev main_call5_v1 : Ref sig .tc := ⟨.hbm, 125, rfl⟩
abbrev main_call5_v2 : Ref sig .tc := ⟨.hbm, 126, rfl⟩
abbrev main_v34 : Ref sig .tc := ⟨.hbm, 127, rfl⟩
abbrev main_v35 : Ref sig .tc := ⟨.hbm, 128, rfl⟩
abbrev main_v36 : Ref sig .tc := ⟨.hbm, 129, rfl⟩
abbrev main_v37 : Ref sig .tc := ⟨.hbm, 130, rfl⟩
abbrev main_cst_8 : Ref sig .tc := ⟨.hbm, 131, rfl⟩
abbrev main_call6_v0 : Ref sig .tc := ⟨.hbm, 132, rfl⟩
abbrev main_call6_v1 : Ref sig .tc := ⟨.hbm, 133, rfl⟩
abbrev main_call6_v2 : Ref sig .tc := ⟨.hbm, 134, rfl⟩
abbrev main_v38 : Ref sig .tc := ⟨.hbm, 135, rfl⟩
abbrev main_v39 : Ref sig .tc := ⟨.hbm, 136, rfl⟩
abbrev main_v40 : Ref sig .tc := ⟨.hbm, 137, rfl⟩
abbrev main_v41 : Ref sig .tc := ⟨.hbm, 138, rfl⟩
abbrev main_v42 : Ref sig .tc := ⟨.hbm, 139, rfl⟩
abbrev main_v43 : Ref sig .tc := ⟨.hbm, 140, rfl⟩
abbrev main_v44 : Ref sig .tc := ⟨.hbm, 141, rfl⟩

abbrev nD : Nat := 1
abbrev τ : Topo := Topo.v7x

variable {F : FTy → Type} [FloatOps F]
-- ==== Proof.Ideal.Ring.lean ====
/-
  The ring of eight devices, the order of its transfers, the slots of the two gathering buffers and what they come to hold.

  Every device sends fourteen copies, numbered in program order by their POSITION p: p % 2 says which of the two gathering
  buffers it copies, p / 2 is the round q; an even q goes to the right neighbour, an odd q to the left one, and q / 2 is the
  number of hops the chunk has behind it.
-/
module

public import proofs.«01_k».proof.Proof.Gen.KernelIdeal
public import proofs.«01_k».proof.Proof.Gen.KernelIdeal.Skeleton
public import Idealize.ShloMosaic.Lib.Rounds
public import Idealize.ShloMosaic.Lib.Tactic

@[expose] public section

noncomputable section

namespace Cert.KernelIdeal.Own

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Neighbours and positions -/

/-- The right and the left neighbour. -/
def right (c : Dev nD) : Dev nD := ⟨(c.val + 1) % 8, Nat.mod_lt _ (by decide)⟩
def left (c : Dev nD) : Dev nD := ⟨(c.val + 7) % 8, Nat.mod_lt _ (by decide)⟩

theorem left_right (c : Dev nD) : left (right c) = c := by revert c; decide
theorem right_left (c : Dev nD) : right (left c) = c := by revert c; decide

/-- Going right once, as a permutation of the devices. -/
def ring : Dev nD ≃ Dev nD := ⟨right, left, left_right, right_left⟩

/-- The chunk device c sends in round q (and, two rounds on, the one it received). -/
def schunk (c : Dev nD) (q : ℕ) : Dev nD :=
  if q % 2 = 0 then ⟨(c.val + 8 - q / 2 % 8) % 8, Nat.mod_lt _ (by decide)⟩ else ⟨(c.val + q / 2) % 8, Nat.mod_lt _ (by decide)⟩

/-- The device round q of c is sent to, and the one whose round q arrives at c. -/
def tgt (c : Dev nD) (p : ℕ) : Dev nD := if p / 2 % 2 = 0 then right c else left c
def frm (c : Dev nD) (p : ℕ) : Dev nD := if p / 2 % 2 = 0 then left c else right c

theorem tgt_frm (c : Dev nD) (p : ℕ) : tgt (frm c p) p = c := by
  unfold tgt frm; split_ifs
  · exact right_left c
  · exact left_right c
theorem frm_tgt (c : Dev nD) (p : ℕ) : frm (tgt c p) p = c := by
  unfold tgt frm; split_ifs
  · exact left_right c
  · exact right_left c

/-- What arrives at the target is there the chunk of two rounds on. -/
theorem schunk_tgt : ∀ (p : Fin 14) (c : Dev nD), schunk (tgt c p) (p / 2 + 2) = schunk c (p / 2) := by decide

/-- The eight chunks a device comes to hold, its own first. -/
theorem schunk_bij (c : Dev nD) : Function.Bijective (fun j : Fin 8 => schunk c (j + 1)) := by
  rw [Fintype.bijective_iff_injective_and_card]
  refine ⟨?_, by decide⟩
  revert c; unfold Function.Injective; decide

/-! ## Semaphores -/

/-- The barrier, and the two completion semaphores of position p. -/
abbrev barS : Sem sig := sig.barrier 0 rfl
def sS (p : ℕ) : DmaSem sig := (![6, 7, 22, 23, 8, 9, 24, 25, 10, 11, 26, 27, 12, 13] : Fin 14 → Fin 34) ⟨p % 14, Nat.mod_lt _ (by decide)⟩
def rS (p : ℕ) : DmaSem sig := (![14, 15, 28, 29, 16, 17, 30, 31, 18, 19, 32, 33, 20, 21] : Fin 14 → Fin 34) ⟨p % 14, Nat.mod_lt _ (by decide)⟩

abbrev barCell (c : Dev nD) : GSem nD τ sig := ((c : Thread nD τ), .reg barS)
abbrev sendCell (c : Dev nD) (p : ℕ) : GSem nD τ sig := ((c : Thread nD τ), .dma (sS p))
abbrev recvCell (c : Dev nD) (p : ℕ) : GSem nD τ sig := ((c : Thread nD τ), .dma (rS p))

/-- What a semaphore is for. -/
inductive Kind where
  | bar | send (p : ℕ) | recv (p : ℕ) | other
  deriving DecidableEq

/-- The position of the i-th semaphore of a rightward and of a leftward array. -/
def posR (i : ℕ) : ℕ := 4 * (i / 2) + i % 2
def posL (i : ℕ) : ℕ := 4 * (i / 2) + 2 + i % 2

def kind : SemLoc sig → Kind
  | .reg s => if s = barS then .bar else .other
  | .dma s => if s.val < 6 then .other else if s.val < 14 then .send (posR (s.val - 6)) else if s.val < 22 then .recv (posR (s.val - 14))
      else if s.val < 28 then .send (posL (s.val - 22)) else if s.val < 34 then .recv (posL (s.val - 28)) else .other

theorem kind_bar : kind (.reg barS) = .bar := by decide
theorem kind_send' : ∀ p : Fin 14, kind (.dma (sS p)) = .send p := by decide
theorem kind_recv' : ∀ p : Fin 14, kind (.dma (rS p)) = .recv p := by decide
theorem kind_send {p : ℕ} (hp : p < 14) : kind (.dma (sS p)) = .send p := kind_send' ⟨p, hp⟩
theorem kind_recv {p : ℕ} (hp : p < 14) : kind (.dma (rS p)) = .recv p := kind_recv' ⟨p, hp⟩

/-! ## The slots -/

abbrev wqRect (k : Dev nD) : Rect S8x512x256 :=
  Rect.unit (s := S8x512x256) ![k.val, 0, 0] S1x512x256.size (by revert k; decide)
abbrev woRect (k : Dev nD) : Rect S8x256x512 :=
  Rect.unit (s := S8x256x512) ![k.val, 0, 0] S1x256x512.size (by revert k; decide)

/-- Slot k of either gathering buffer, as the copies name it. -/
abbrev wqSlot (k : Dev nD) : Memref sig .tc .vmem S512x256 .bf16 :=
  ((Memref.whole cc0_scratch0 : Memref sig .tc .vmem S8x512x256 .bf16).slice (wqRect k) (fun _ => rfl)).squeeze S512x256 squeezes_S1x512x256_S512x256
abbrev woSlot (k : Dev nD) : Memref sig .tc .vmem S256x512 .bf16 :=
  ((Memref.whole cc0_scratch1 : Memref sig .tc .vmem S8x256x512 .bf16).slice (woRect k) (fun _ => rfl)).squeeze S256x512 squeezes_S1x256x512_S256x512

theorem wqSlot_of {off : Fin 3 → ℕ} {k : Dev nD} (h : off = ![k.val, 0, 0]) (inb : ∀ a, off a + S1x512x256.size a ≤ S8x512x256.size a) :
    (((Memref.whole cc0_scratch0 : Memref sig .tc .vmem S8x512x256 .bf16).slice (Rect.unit (s := S8x512x256) off S1x512x256.size inb) (fun _ => rfl)).squeeze S512x256 squeezes_S1x512x256_S512x256) = wqSlot k := by
  subst h; rfl
theorem woSlot_of {off : Fin 3 → ℕ} {k : Dev nD} (h : off = ![k.val, 0, 0]) (inb : ∀ a, off a + S1x256x512.size a ≤ S8x256x512.size a) :
    (((Memref.whole cc0_scratch1 : Memref sig .tc .vmem S8x256x512 .bf16).slice (Rect.unit (s := S8x256x512) off S1x256x512.size inb) (fun _ => rfl)).squeeze S256x512 squeezes_S1x256x512_S256x512) = woSlot k := by
  subst h; rfl

/-- One copy's credit, the same for both buffers. -/
abbrev N : ℕ := (wqSlot 0).view.dmaCredit
theorem N_pos : 0 < N := View.dmaCredit_pos _ (by decide)
theorem credit_wq (k : Dev nD) : (wqSlot k).view.dmaCredit = N := rfl
theorem credit_wo (k : Dev nD) : (woSlot k).view.dmaCredit = N := rfl

/-- The elements of a slot: those of its leading coordinate. -/
theorem wq_set (k : Dev nD) : (wqSlot k).view.set = (wqRect k).set :=
  (View.set_reshape _ _).trans (View.set_slice_whole _ _)
theorem wo_set (k : Dev nD) : (woSlot k).view.set = (woRect k).set :=
  (View.set_reshape _ _).trans (View.set_slice_whole _ _)

theorem mem_wq {k : Dev nD} {i : S8x512x256.Idx} : i ∈ (wqRect k).set ↔ (i 0).val = k.val := by
  rw [Rect.mem_set_unit]
  constructor
  · intro h; have := h 0
    change k.val ≤ (i 0).val ∧ (i 0).val < k.val + 1 at this; omega
  · intro h a
    match a with
    | 0 => show k.val ≤ (i 0).val ∧ (i 0).val < k.val + 1; omega
    | 1 => show 0 ≤ (i 1).val ∧ (i 1).val < 0 + 512; have := (i 1).isLt; exact ⟨Nat.zero_le _, by rw [Nat.zero_add]; exact this⟩
    | 2 => show 0 ≤ (i 2).val ∧ (i 2).val < 0 + 256; have := (i 2).isLt; exact ⟨Nat.zero_le _, by rw [Nat.zero_add]; exact this⟩
theorem mem_wo {k : Dev nD} {i : S8x256x512.Idx} : i ∈ (woRect k).set ↔ (i 0).val = k.val := by
  rw [Rect.mem_set_unit]
  constructor
  · intro h; have := h 0
    change k.val ≤ (i 0).val ∧ (i 0).val < k.val + 1 at this; omega
  · intro h a
    match a with
    | 0 => show k.val ≤ (i 0).val ∧ (i 0).val < k.val + 1; omega
    | 1 => show 0 ≤ (i 1).val ∧ (i 1).val < 0 + 256; have := (i 1).isLt; exact ⟨Nat.zero_le _, by rw [Nat.zero_add]; exact this⟩
    | 2 => show 0 ≤ (i 2).val ∧ (i 2).val < 0 + 512; have := (i 2).isLt; exact ⟨Nat.zero_le _, by rw [Nat.zero_add]; exact this⟩

/-! ## What the buffers come to hold -/

/-- An element of a buffer without its leading coordinate. -/
def wqIn (i : S8x512x256.Idx) : S1x512x256.Idx := fun | 0 => ⟨0, Nat.one_pos⟩ | 1 => i 1 | 2 => i 2
def woIn (i : S8x256x512.Idx) : S1x256x512.Idx := fun | 0 => ⟨0, Nat.one_pos⟩ | 1 => i 1 | 2 => i 2

/-- Slot k of the first buffer is device k's block of the query weights, of the second its block of the output weights:
    the same on every device. -/
def wqAll (A : Dev nD → Vec F S512x256 .bf16) : Vec F S8x512x256 .bf16 := fun i => k0_pay7 (A (i 0)) (wqIn i)
def woAll (A : Dev nD → Vec F S256x512 .bf16) : Vec F S8x256x512 .bf16 := fun i => k0_pay9 (k0_pay8 (A (i 0))) (woIn i)

theorem wqAll_emb (A : Dev nD → Vec F S512x256 .bf16) (k : Dev nD) (x : S1x512x256.Idx) :
    wqAll A ((wqRect k).emb x) = k0_pay7 (A k) x := by
  have h0 : ((wqRect k).emb x) 0 = k := Fin.ext (by
    rw [Rect.emb_apply]; show k.val + 1 * (x 0).val = k.val
    have : (x 0).val < 1 := (x 0).isLt
    omega)
  have h1 : wqIn ((wqRect k).emb x) = x := funext fun a => by
    match a with
    | 0 => exact Fin.ext (by have : (x 0).val < 1 := (x 0).isLt; show 0 = (x 0).val; omega)
    | 1 => exact Fin.ext (by show 0 + 1 * (x 1).val = (x 1).val; omega)
    | 2 => exact Fin.ext (by show 0 + 1 * (x 2).val = (x 2).val; omega)
  unfold wqAll; rw [h1, h0]
theorem woAll_emb (A : Dev nD → Vec F S256x512 .bf16) (k : Dev nD) (x : S1x256x512.Idx) :
    woAll A ((woRect k).emb x) = k0_pay9 (k0_pay8 (A k)) x := by
  have h0 : ((woRect k).emb x) 0 = k := Fin.ext (by
    rw [Rect.emb_apply]; show k.val + 1 * (x 0).val = k.val
    have : (x 0).val < 1 := (x 0).isLt
    omega)
  have h1 : woIn ((woRect k).emb x) = x := funext fun a => by
    match a with
    | 0 => exact Fin.ext (by have : (x 0).val < 1 := (x 0).isLt; show 0 = (x 0).val; omega)
    | 1 => exact Fin.ext (by show 0 + 1 * (x 1).val = (x 1).val; omega)
    | 2 => exact Fin.ext (by show 0 + 1 * (x 2).val = (x 2).val; omega)
  unfold woAll; rw [h1, h0]

/-- The store into the own slot makes it what `wqAll` says. -/
theorem wq_stored (A : Dev nD → Vec F S512x256 .bf16) (k : Dev nD) (f : Vec F S8x512x256 .bf16) :
    ∀ i ∈ (wqRect k).set, (((Memref.whole cc0_scratch0 : Memref sig .tc .vmem S8x512x256 .bf16).access (wqRect k)).write (Elt F) f (k0_pay7 (A k)) Finset.univ) i = wqAll A i := by
  intro i hi
  obtain ⟨x, rfl⟩ : ∃ x, (wqRect k).emb x = i := by
    rw [← View.set_slice_whole cc0_scratch0 (wqRect k)] at hi
    obtain ⟨x, -, h⟩ := Finset.mem_map.mp hi; exact ⟨x, h⟩
  rw [wqAll_emb]
  exact View.write_emb_of_mem (v := (Memref.whole cc0_scratch0 : Memref sig .tc .vmem S8x512x256 .bf16).access (wqRect k)) f _ (Finset.mem_univ x)
theorem wo_stored (A : Dev nD → Vec F S256x512 .bf16) (k : Dev nD) (f : Vec F S8x256x512 .bf16) :
    ∀ i ∈ (woRect k).set, (((Memref.whole cc0_scratch1 : Memref sig .tc .vmem S8x256x512 .bf16).access (woRect k)).write (Elt F) f (k0_pay9 (k0_pay8 (A k))) Finset.univ) i = woAll A i := by
  intro i hi
  obtain ⟨x, rfl⟩ : ∃ x, (woRect k).emb x = i := by
    rw [← View.set_slice_whole cc0_scratch1 (woRect k)] at hi
    obtain ⟨x, -, h⟩ := Finset.mem_map.mp hi; exact ⟨x, h⟩
  rw [woAll_emb]
  exact View.write_emb_of_mem (v := (Memref.whole cc0_scratch1 : Memref sig .tc .vmem S8x256x512 .bf16).access (woRect k)) f _ (Finset.mem_univ x)

/-! ## The offsets the program computes -/

theorem off_own : ∀ c : Dev nD, k0_off1 c = ![(schunk c 1).val, 0, 0] ∧ k0_off2 c = ![(schunk c 1).val, 0, 0]
    ∧ k0_off3 c = ![(schunk c 0).val, 0, 0] ∧ k0_off4 c = ![(schunk c 0).val, 0, 0] := by decide
theorem off_ownK : ∀ (c : Dev nD) (h : Fin 4), k0_off5 c (BitVec.ofNat 32 h.val) = ![4 * (schunk c 1).val + h.val, 0, 0, 0] := by decide
theorem off_ownW : ∀ c : Dev nD, k0_off6 c = ![(schunk c 1).val, 64 * 0, 0] ∧ k0_off7 c = ![(schunk c 1).val, 64 * 1, 0]
    ∧ k0_off8 c = ![(schunk c 1).val, 64 * 2, 0] ∧ k0_off9 c = ![(schunk c 1).val, 64 * 3, 0] := by decide
theorem off_fwdR : ∀ (c : Dev nD) (s : Fin 3), k0_off10 c (BitVec.ofNat 32 s.val) = ![(schunk c (2 * s.val + 2)).val, 0, 0]
    ∧ k0_off11 c (BitVec.ofNat 32 s.val) = ![(schunk c (2 * s.val + 2)).val, 0, 0] := by decide
theorem off_fwdL : ∀ (c : Dev nD) (s : Fin 2), k0_off12 c (BitVec.ofNat 32 s.val) = ![(schunk c (2 * s.val + 3)).val, 0, 0]
    ∧ k0_off13 c (BitVec.ofNat 32 s.val) = ![(schunk c (2 * s.val + 3)).val, 0, 0] := by decide
theorem off_R : ∀ (c : Dev nD) (s : Fin 4), k0_off14 c (BitVec.ofNat 32 s.val) = ![(schunk c (2 * s.val + 2)).val, 0, 0]
    ∧ k0_off16 c (BitVec.ofNat 32 s.val) = ![(schunk c (2 * s.val + 2)).val, 64 * 0, 0]
    ∧ k0_off17 c (BitVec.ofNat 32 s.val) = ![(schunk c (2 * s.val + 2)).val, 64 * 1, 0]
    ∧ k0_off18 c (BitVec.ofNat 32 s.val) = ![(schunk c (2 * s.val + 2)).val, 64 * 2, 0]
    ∧ k0_off19 c (BitVec.ofNat 32 s.val) = ![(schunk c (2 * s.val + 2)).val, 64 * 3, 0] := by decide
theorem off_RK : ∀ (c : Dev nD) (s h : Fin 4), k0_off15 c (BitVec.ofNat 32 s.val) (BitVec.ofNat 32 h.val) = ![4 * (schunk c (2 * s.val + 2)).val + h.val, 0, 0, 0] := by decide
theorem off_L : ∀ (c : Dev nD) (s : Fin 3), k0_off20 c (BitVec.ofNat 32 s.val) = ![(schunk c (2 * s.val + 3)).val, 0, 0]
    ∧ k0_off22 c (BitVec.ofNat 32 s.val) = ![(schunk c (2 * s.val + 3)).val, 64 * 0, 0]
    ∧ k0_off23 c (BitVec.ofNat 32 s.val) = ![(schunk c (2 * s.val + 3)).val, 64 * 1, 0]
    ∧ k0_off24 c (BitVec.ofNat 32 s.val) = ![(schunk c (2 * s.val + 3)).val, 64 * 2, 0]
    ∧ k0_off25 c (BitVec.ofNat 32 s.val) = ![(schunk c (2 * s.val + 3)).val, 64 * 3, 0] := by decide
theorem off_LK : ∀ (c : Dev nD) (s : Fin 3) (h : Fin 4), k0_off21 c (BitVec.ofNat 32 s.val) (BitVec.ofNat 32 h.val) = ![4 * (schunk c (2 * s.val + 3)).val + h.val, 0, 0, 0] := by decide

end Cert.KernelIdeal.Own
-- ==== Proof.Ideal.Protocol.lean ====
/-
  The protocol of the ring: what every semaphore's round is worth, who pays it and what comes with it; the levels of the
  waits; what a device owes after its first n copies.

  Barrier of c: one unit from each neighbour, handing c the slots its copies to that neighbour land in.
  Completion cells of position p: the receive cell of c is paid by the copy that lands on c, which hands c the slot at its
  final contents; the send cell by c's own copy, which hands back the share of the source that was lent.
-/
module

public import proofs.«01_k».proof.Proof.Ideal.Ring
public import Idealize.ShloMosaic.Lib.Pipeline.Regions
public import Idealize.ShloMosaic.Lib.Pipeline.Kit
public import Idealize.ShloMosaic.Lib.StableHlo
public import Mathlib.Algebra.BigOperators.Intervals
public import Idealize.ShloMosaic.Lib.Pipeline.RegionTalk

@[expose] public section

noncomputable section

namespace Cert.KernelIdeal.Own

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-- The weights as the devices hold them before the gathering. -/
structure Weights (F : FTy → Type) where
  wq : Dev nD → Vec F S512x256 .bf16
  wo : Dev nD → Vec F S256x512 .bf16

variable (A : Weights F)

/-! ## Slots held -/

/-- Slot k of device c's first (second) gathering buffer, at a share, at contents f. -/
abbrev wqAt (c k : Dev nD) (q : PosShare TreeShare) (f : Vec F S8x512x256 .bf16) : sProp 𝕄 :=
  ((c : Thread nD τ).loc cc0_scratch0) ↦[(wqRect k).set]{q} f
abbrev woAt (c k : Dev nD) (q : PosShare TreeShare) (f : Vec F S8x256x512 .bf16) : sProp 𝕄 :=
  ((c : Thread nD τ).loc cc0_scratch1) ↦[(woRect k).set]{q} f

/-- Slot k of the buffer position p copies, filled, at a share. -/
def piece (p : ℕ) (c k : Dev nD) (q : PosShare TreeShare) : sProp 𝕄 :=
  if p % 2 = 0 then wqAt c k q (wqAll A.wq) else woAt c k q (woAll A.wo)

/-- The same slot whole, at contents not chosen. -/
def hole (p : ℕ) (c k : Dev nD) : sProp 𝕄 :=
  if p % 2 = 0 then iprop(∃ f : Vec F S8x512x256 .bf16, wqAt c k fullShare f) else iprop(∃ f : Vec F S8x256x512 .bf16, woAt c k fullShare f)

instance piece_storable (p : ℕ) (c k : Dev nD) (q : PosShare TreeShare) : BI.Storable (upEmb : UEmb _ 𝕄) (piece A p c k q) := by
  unfold piece; split <;> infer_instance
instance hole_storable (p : ℕ) (c k : Dev nD) : BI.Storable (upEmb : UEmb _ 𝕄) (hole p c k : sProp 𝕄) := by
  unfold hole; split <;> infer_instance

theorem piece_share (p : ℕ) (c k : Dev nD) (q : PosShare TreeShare) :
    (piece A p c k q : sProp 𝕄) ⊣⊢ iprop(piece A p c k q.left ∗ piece A p c k q.right) := by
  unfold piece; split
  · exact pointsTo_share (PosShare.mem_left_op_right q)
  · exact pointsTo_share (PosShare.mem_left_op_right q)

theorem piece_hole (p : ℕ) (c k : Dev nD) : (piece A p c k fullShare : sProp 𝕄) ⊢ hole p c k := by
  unfold piece hole; split
  · iintro H; iexists _; iexact H
  · iintro H; iexists _; iexact H

/-- The share position p lends to its copy: half of the half-share left by the loads for the own chunk (which goes both
    ways), the whole half-share for a chunk received. -/
def lshare (p : ℕ) : PosShare TreeShare :=
  if p < 2 then fullShare.right.left else if p < 4 then fullShare.right.right else fullShare.right

/-- What position p lends. -/
def lend (c : Dev nD) (p : ℕ) : sProp 𝕄 := piece A p c (schunk c (p / 2)) (lshare p)
/-- What position p's copy lands in: the slot on the target, and that the receive cell there is open. -/
def land (c : Dev nD) (p : ℕ) : sProp 𝕄 := iprop(hole p (tgt c p) (schunk c (p / 2)) ∗ reached ER (recvCell (tgt c p) p) 0)
/-- What arrives at c at position p. -/
def arrive (c : Dev nD) (p : ℕ) : sProp 𝕄 := piece A p c (schunk c (p / 2 + 2)) fullShare

/-- The positions of rightward and of leftward copies. -/
def dirPos (d : Bool) : Finset ℕ := (Finset.range 14).filter fun p => (p / 2 % 2 = 0) = (d = true)

/-! ## The schedule -/

def duty (κ : Kind) : Finset Bool := match κ with | .bar => Finset.univ | .other => ∅ | _ => {true}
def worth (κ : Kind) : ℕ := match κ with | .bar => 1 | _ => N
def pay (κ : Kind) (c : Dev nD) (d : Bool) : sProp 𝕄 := match κ with
  | .bar => bigSep (dirPos d) (land c)
  | .send p => lend A c p
  | .recv p => arrive A c p
  | .other => iprop(emp)

def ringRd : Rounds.Schedule (GSem nD τ sig) Bool 𝕄 where
  duties g r := if r = 0 ∧ g.1.2 = .tc then duty (kind g.2) else ∅
  unitless _ := False
  amount g _ _ := worth (kind g.2)
  payload g _ d := pay A (kind g.2) g.1.1 d
  amount_pos g _ _ _ := by unfold worth; split; exacts [Nat.one_pos, N_pos]

instance land_storable (c : Dev nD) (p : ℕ) : BI.Storable (upEmb : UEmb _ 𝕄) (land c p : sProp 𝕄) := by
  unfold land; infer_instance
instance pay_storable (κ : Kind) (c : Dev nD) (d : Bool) : BI.Storable (upEmb : UEmb _ 𝕄) (pay A κ c d) := by
  unfold pay; split
  · infer_instance
  · unfold lend; infer_instance
  · unfold arrive; infer_instance
  · infer_instance
instance ringRd_storable (g : GSem nD τ sig) (r : ℕ) (d : Bool) :
    BI.Storable (upEmb : UEmb _ 𝕄) ((ringRd A).payload g r d) := pay_storable A _ _ _

section Tables
variable (c : Dev nD)

theorem duties_tc (sm : SemLoc sig) : (ringRd A).duties ((c : Thread nD τ), sm) 0 = duty (kind sm) := by
  show (if 0 = 0 ∧ (((c : Thread nD τ), sm) : GSem nD τ sig).1.2 = .tc then duty (kind sm) else ∅) = _; exact if_pos ⟨rfl, rfl⟩
theorem duties_bar : (ringRd A).duties (barCell c) 0 = Finset.univ := by rw [duties_tc, kind_bar]; rfl
theorem duties_send {p : ℕ} (hp : p < 14) : (ringRd A).duties (sendCell c p) 0 = {true} := by rw [duties_tc, kind_send hp]; rfl
theorem duties_recv {p : ℕ} (hp : p < 14) : (ringRd A).duties (recvCell c p) 0 = {true} := by rw [duties_tc, kind_recv hp]; rfl
theorem duties_later (g : GSem nD τ sig) : ∀ r, 0 + 1 ≤ r → (ringRd A).duties g r = ∅ := fun r hr => by
  show (if _ then _ else ∅) = _; rw [if_neg (fun h => by omega)]

theorem amount_bar (d : Bool) : (ringRd A).amount (barCell c) 0 d = 1 := by
  show worth (kind (.reg barS)) = 1; rw [kind_bar]; rfl
theorem amount_send {p : ℕ} (hp : p < 14) (d : Bool) : (ringRd A).amount (sendCell c p) 0 d = N := by
  show worth (kind (.dma (sS p))) = N; rw [kind_send hp]; rfl
theorem amount_recv {p : ℕ} (hp : p < 14) (d : Bool) : (ringRd A).amount (recvCell c p) 0 d = N := by
  show worth (kind (.dma (rS p))) = N; rw [kind_recv hp]; rfl

theorem expect_bar : (ringRd A).expect (barCell c) 0 = 2 := by
  unfold Schedule.expect Schedule.amountOf; rw [duties_bar]
  rw [Finset.sum_congr rfl fun d _ => amount_bar A c d]; rfl
theorem expect_send {p : ℕ} (hp : p < 14) : (ringRd A).expect (sendCell c p) 0 = N := by
  unfold Schedule.expect Schedule.amountOf; rw [duties_send A c hp, Finset.sum_singleton, amount_send A c hp]
theorem expect_recv {p : ℕ} (hp : p < 14) : (ringRd A).expect (recvCell c p) 0 = N := by
  unfold Schedule.expect Schedule.amountOf; rw [duties_recv A c hp, Finset.sum_singleton, amount_recv A c hp]

theorem payload_bar (d : Bool) : (ringRd A).payload (barCell c) 0 d = bigSep (dirPos d) (land c) := by
  show pay A (kind (.reg barS)) c d = _; rw [kind_bar]; rfl
theorem payload_send {p : ℕ} (hp : p < 14) (d : Bool) : (ringRd A).payload (sendCell c p) 0 d = lend A c p := by
  show pay A (kind (.dma (sS p))) c d = _; rw [kind_send hp]; rfl
theorem payload_recv {p : ℕ} (hp : p < 14) (d : Bool) : (ringRd A).payload (recvCell c p) 0 d = arrive A c p := by
  show pay A (kind (.dma (rS p))) c d = _; rw [kind_recv hp]; rfl

theorem rest_bar : bigSep ((ringRd A).duties (barCell c) 0 \ ∅) (fun d => (ringRd A).payload (barCell c) 0 d)
    = bigSep (Finset.Ico 0 14) (land c : ℕ → sProp 𝕄) := by
  rw [Finset.sdiff_empty, duties_bar, bigSep_congr fun d _ => payload_bar A c d,
    show (Finset.univ : Finset Bool) = insert true {false} from by decide, bigSep_insert (by decide), bigSep_singleton]
  show iprop(bigSep (dirPos true) (land c) ∗ bigSep (dirPos false) (land c)) = _
  rw [show Finset.Ico 0 14 = dirPos true ∪ dirPos false from by decide]
  exact (bigSep_union (by decide)).symm
theorem rest_send {p : ℕ} (hp : p < 14) : bigSep ((ringRd A).duties (sendCell c p) 0 \ ∅) (fun d => (ringRd A).payload (sendCell c p) 0 d) = lend A c p := by
  rw [Finset.sdiff_empty, duties_send A c hp, bigSep_singleton, payload_send A c hp]
theorem rest_recv {p : ℕ} (hp : p < 14) : bigSep ((ringRd A).duties (recvCell c p) 0 \ ∅) (fun d => (ringRd A).payload (recvCell c p) 0 d) = arrive A c p := by
  rw [Finset.sdiff_empty, duties_recv A c hp, bigSep_singleton, payload_recv A c hp]

end Tables

/-! ## Levels and debts -/

def L (g : GSem nD τ sig) : Finset Unit := if g.1.2 = .tc then {()} else ∅
/-- Staging and send cells at 0, barriers at 1, the receive cell of position p at p + 2. -/
def lv (g : GSem nD τ sig) (_ : Unit) : ℕ := match kind g.2 with | .bar => 1 | .recv p => p + 2 | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := by unfold lv; rw [show kind (barCell c).2 = .bar from kind_bar]
theorem lv_recv (c : Dev nD) {p : ℕ} (hp : p < 14) (u : Unit) : lv (recvCell c p) u = p + 2 := by
  unfold lv; rw [show kind (recvCell c p).2 = .recv p from kind_recv hp]

/-- What c owes once its first n copies are under way: the receive credits of the others. -/
def debt (c : Dev nD) (n : ℕ) : CellTallies nD τ sig Unit := ∑ p ∈ Finset.Ico n 14, tallyAt (recvCell (tgt c p) p) () N

theorem debt_step (c : Dev nD) {n : ℕ} (hn : n < 14) : debt c n = debt c (n + 1) + tallyAt (recvCell (tgt c n) n) () N := by
  unfold debt
  rw [← Finset.sum_Ico_consecutive _ (Nat.le_succ n) hn, Nat.Ico_succ_singleton, Finset.sum_singleton, add_comm]
theorem debt_end (c : Dev nD) : debt c 14 = 0 := by unfold debt; rw [Finset.Ico_self, Finset.sum_empty]

theorem debt_pos {c : Dev nD} {n : ℕ} {g : GSem nD τ sig} {u : Unit} (h : 0 < debt c n g u) :
    ∃ p, n ≤ p ∧ p < 14 ∧ g = recvCell (tgt c p) p := by
  by_cases hn : n < 14
  · rw [debt_step c hn, Pi.add_apply, Finsupp.add_apply] at h
    rcases Nat.add_pos_iff_pos_or_pos.mp h with h | h
    · obtain ⟨p, h1, h2, h3⟩ := debt_pos h; exact ⟨p, by omega, h2, h3⟩
    · exact ⟨n, le_rfl, hn, (Pipeline.tallyAt_pos h).1⟩
  · unfold debt at h; rw [Finset.Ico_eq_empty hn, Finset.sum_empty] at h; exact absurd h (Nat.lt_irrefl 0)
termination_by 14 - n

/-- The barrier, and any receive cell of a position already sent, may be waited for. -/
theorem mayWait_of (c : Dev nD) (sm : SemLoc sig) (n : ℕ) (h : lv ((c : Thread nD τ), sm) () < n + 2) :
    (levAts L lv : sProp 𝕄) ⊢ MayWait (c : Thread nD τ) sm () (debt c n) :=
  MayOwe.of_cut (L := L) (lev := lv) (lv ((c : Thread nD τ), sm) ()) (fun p hp => by rw [Finset.mem_singleton.mp hp, L_tc]; exact Finset.mem_singleton_self _)
    (fun g u hg => by obtain ⟨p, -, -, rfl⟩ := debt_pos hg; rw [L_tc]; exact Finset.mem_singleton_self _)
    (fun p hp => by rw [Finset.mem_singleton.mp hp])
    (fun g u hg => by
      obtain ⟨p, h1, h2, rfl⟩ := debt_pos hg
      rw [lv_recv _ h2]; omega)

theorem mayWait_bar (c : Dev nD) : (levAts L lv : sProp 𝕄) ⊢ MayWait (c : Thread nD τ) (.reg barS) () (debt c 0) :=
  mayWait_of c _ 0 (by rw [lv_bar]; omega)
theorem mayWait_recv (c : Dev nD) {p n : ℕ} (hp : p < 14) (h : p < n) :
    (levAts L lv : sProp 𝕄) ⊢ MayWait (c : Thread nD τ) (.dma (rS p)) () (debt c n) :=
  mayWait_of c _ n (by rw [lv_recv c hp]; omega)

end Cert.KernelIdeal.Own
-- ==== Proof.Ideal.State.lean ====
/-
  Where a device stands in the middle of its run: n copies under way, m received, w of its own copies waited for.
-/
module

public import proofs.«01_k».proof.Proof.Ideal.Protocol
public import Idealize.SL.BI.BigOpNat

@[expose] public section

noncomputable section

namespace Cert.KernelIdeal.Own

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig Unit (Elt F) ℕ UU ℕ

/-! ## The cells of the protocol -/

/-- The kernel's own semaphores: the fourteen of its copies, the fourteen of its receipts. -/
def osem (i : Fin 28) : SemLoc sig := if i.val < 14 then .dma (sS i) else .dma (rS (i - 14))
theorem osem_inj : Function.Injective osem := by decide

def barEmb : Dev nD ↪ GSem nD τ sig := ⟨fun c => barCell c, fun _ _ h => congrArg (fun g : GSem nD τ sig => g.1.1) h⟩
def scEmb : Dev nD × Fin 28 ↪ GSem nD τ sig :=
  ⟨fun ck => ((ck.1 : Thread nD τ), osem ck.2), fun _ _ h =>
    Prod.ext (congrArg (fun g : GSem nD τ sig => g.1.1) h) (osem_inj (congrArg Prod.snd h))⟩
abbrev barCells : Finset (GSem nD τ sig) := Finset.univ.map barEmb
abbrev scCells : Finset (GSem nD τ sig) := Finset.univ.map scEmb

theorem osem_send {p : ℕ} (hp : p < 14) : osem ⟨p, by omega⟩ = .dma (sS p) := if_pos hp
theorem osem_recv {p : ℕ} (hp : p < 14) : osem ⟨14 + p, by omega⟩ = .dma (rS p) := by
  unfold osem; rw [if_neg (by show ¬ 14 + p < 14; omega)]; congr 2; show 14 + p - 14 = p; omega

theorem bar_mem (c : Dev nD) : barCell c ∈ (barCells ∪ scCells : Finset (GSem nD τ sig)) :=
  Finset.mem_union_left _ (Finset.mem_map_of_mem barEmb (Finset.mem_univ c))
theorem send_mem (c : Dev nD) {p : ℕ} (hp : p < 14) : sendCell c p ∈ (barCells ∪ scCells : Finset (GSem nD τ sig)) := by
  have h := Finset.mem_map_of_mem scEmb (Finset.mem_univ (c, (⟨p, by omega⟩ : Fin 28)))
  refine Finset.mem_union_right _ ?_
  change ((c : Thread nD τ), osem ⟨p, _⟩) ∈ _ at h; rwa [osem_send hp] at h
theorem recv_mem (c : Dev nD) {p : ℕ} (hp : p < 14) : recvCell c p ∈ (barCells ∪ scCells : Finset (GSem nD τ sig)) := by
  have h := Finset.mem_map_of_mem scEmb (Finset.mem_univ (c, (⟨14 + p, by omega⟩ : Fin 28)))
  refine Finset.mem_union_right _ ?_
  change ((c : Thread nD τ), osem ⟨14 + p, _⟩) ∈ _ at h; rwa [osem_recv hp] at h

/-! ## Weakest preconditions of the body -/

abbrev 𝒱₀ : Variants := Variants.none

abbrev Wp (c : Dev nD) {α : Type} (P : Prog (TpuEff nD τ sig (Elt F) Λ₀ .tc) α) (Q : α → sProp 𝕄) : sProp 𝕄 :=
  wp frame (wpE (defs₀ (F := F)) 𝒱₀ (c : Thread nD τ) none) Set.univ P Q

/-! ## What a device holds -/

variable (A : Weights F)

/-- The rest of a device's inputs, and what is known of its staged result. -/
structure Inputs (F : FTy → Type) where
  x : Vec F S2x256x512 .bf16
  k : Vec F S32x2x256x64 .bf16
  v : Vec F S32x2x256x64 .bf16
  r : Vec F S2x256x512 .f32 → Prop

variable (X : Inputs F) (K : GSem nD τ sig → ℕ) (c : Dev nD)

/-- The staged inputs and the staged result. -/
def inputs : sProp 𝕄 :=
  iprop((((c : Thread nD τ).loc cc0_stg0_0) ↦{fullShare} (X.x : Vec F S2x256x512 .bf16)) ∗ (((c : Thread nD τ).loc cc0_stg1_0) ↦{fullShare} (A.wq c : Vec F S512x256 .bf16))
    ∗ (((c : Thread nD τ).loc cc0_stg2_0) ↦{fullShare} (X.k : Vec F S32x2x256x64 .bf16)) ∗ (((c : Thread nD τ).loc cc0_stg3_0) ↦{fullShare} (X.v : Vec F S32x2x256x64 .bf16))
    ∗ (((c : Thread nD τ).loc cc0_stg4_0) ↦{fullShare} (A.wo c : Vec F S256x512 .bf16)) ∗ ∃ f : Vec F S2x256x512 .f32, ⌜X.r f⌝ ∗ (((c : Thread nD τ).loc cc0_stg5_0) ↦{fullShare} f))
/-- With the barrier past its round. -/
def staged : sProp 𝕄 := iprop(inputs A X c ∗ atPos ER (barCell c) (0 + 1) ∅ 0)

def invs : sProp 𝕄 := bigSep (barCells ∪ scCells) fun g => cellInv ER (ringRd A) (K g) g
instance invs_persistent : BI.Persistent (invs A K) := by unfold invs; infer_instance
theorem inv_at {g : GSem nD τ sig} (hg : g ∈ (barCells ∪ scCells : Finset (GSem nD τ sig))) : invs A K ⊢ cellInv ER (ringRd A) (K g) g :=
  bigSep_elim hg

/-- What position p's copy is sent with, but for the landing. -/
def ticket (p : ℕ) : sProp 𝕄 :=
  iprop(dutyTok ER (recvCell (tgt c p) p) 0 true ∗ dutyTok ER (sendCell c p) 0 true ∗ reached ER (sendCell c p) 0 ∗ atPos ER (sendCell c p) 0 ∅ 0)
/-- What position p's receipt is waited for with, and position p's own copy once under way. -/
def toRecv (p : ℕ) : sProp 𝕄 := iprop(cred (tallyAt (recvCell c p) () N) ∗ atPos ER (recvCell c p) 0 ∅ 0)
def flying (p : ℕ) : sProp 𝕄 := iprop(cred (tallyAt (sendCell c p) () N) ∗ atPos ER (sendCell c p) 0 ∅ 0)
/-- The cells of position p past their round. -/
def recvd (p : ℕ) : sProp 𝕄 := atPos ER (recvCell c p) (0 + 1) ∅ 0
def sent (p : ℕ) : sProp 𝕄 := atPos ER (sendCell c p) (0 + 1) ∅ 0
/-- The half share kept for loads, of the chunk of index i (the own chunk 0 and 1, the one received at position p at p + 2). -/
def avail (i : ℕ) : sProp 𝕄 := piece A i c (schunk c (i / 2 + 1)) fullShare.left

def St (n m w : ℕ) : sProp 𝕄 :=
  iprop(invs A K ∗ levAts L lv ∗ (∃ W, owes (c : Thread nD τ) (debt c n) W)
    ∗ (bigSep (Finset.Ico n 14) (land c) ∗ bigSep (Finset.Ico n 14) (ticket c)) ∗ bigSep (Finset.Ico m 14) (toRecv c)
    ∗ bigSep (Finset.Ico w n) (flying c) ∗ bigSep (Finset.Ico n (m + 4)) (lend A c)
    ∗ bigSep (Finset.Ico 0 (m + 2)) (avail A c) ∗ bigSep (Finset.Ico 0 w) (lend A c)
    ∗ bigSep (Finset.Ico 0 m) (recvd c) ∗ bigSep (Finset.Ico 0 w) (sent c)
    ∗ staged A X c)

theorem piece_mod {p p' : ℕ} (h : p % 2 = p' % 2) (k : Dev nD) (q : PosShare TreeShare) : (piece A p c k q : sProp 𝕄) = piece A p' c k q := by
  unfold piece; rw [h]

/-- What arrives at position m splits into what position m + 4 lends and the half kept for loads. -/
theorem arrive_split (m : ℕ) : (arrive A c m : sProp 𝕄) ⊢ iprop(lend A c (m + 4) ∗ avail A c (m + 2)) := by
  have e1 : (m + 4) / 2 = m / 2 + 2 := by omega
  have e2 : (m + 2) / 2 + 1 = m / 2 + 2 := by omega
  unfold arrive lend avail lshare
  rw [if_neg (by omega), if_neg (by omega), e1, e2, piece_mod A c (p := m + 4) (p' := m) (by omega), piece_mod A c (p := m + 2) (p' := m) (by omega)]
  refine (piece_share A m c _ fullShare).1.trans ?_
  iintro ⟨Hl, Hr⟩; isplitl [Hr] <;> iassumption

/-! ## Waiting for a receipt, and for an own copy -/

theorem st_recv {n m w : ℕ} (hm : m < 14) (hmn : m < n) (hnm : n ≤ m + 4) {sem : DmaSem sig} {κ' : Idealize.ShloMosaic.Kind} {sp sp' : Space} {s s' : Shape} {e e' : EltTy} (hsem : sem = rS m)
    {src : Memref sig .tc sp s e} {dst : Memref sig κ' sp' s' e'} (hN : dst.view.dmaCredit = N)
    {h1 : src.view.WordExact} {h2 : dst.view.WordExact}
    {α : Type} {k : PUnit → Prog (TpuEff nD τ sig (Elt F) Λ₀ .tc) α} {Q : α → sProp 𝕄}
    (h : St A X K c n (m + 1) w ⊢ Wp c (k ⟨⟩) Q) :
    St A X K c n m w ⊢ Wp c (.op (.waitDma2 sem src dst h1 h2) k) Q := by
  subst hsem
  unfold St
  rw [bigSep_Ico_succ_bot hm]
  iintro ⟨#Hinv, #Hlev, ⟨%W, HO⟩, Hsend, ⟨Hr, Hrecv⟩, Hfly, Hlend, Hav, Hback, Hrd, Hsd, Hst⟩
  unfold toRecv
  icases Hr with ⟨Hcr, Hat⟩
  iapply (Rounds.wp_wait_rest_token 𝒱₀ ER (ringRd A) (c : Thread nD τ) none (κ := K (recvCell c m)) (sm := .dma (rS m)) (k' := N)
      (fun K' => by rw [← hN]; exact wpE_waitDma2_eq 𝒱₀ (c : Thread nD τ) none Set.univ K') (Set.mem_univ _) () (O := debt c n) (W := W) (R := 0) (m := 0) (T := ∅)
      (by rw [expect_recv A c hm, Nat.zero_add])) $$ [Hcr HO Hat]
  · isplitr; · iapply (inv_at A K (recv_mem c hm)); iexact Hinv
    isplitl [Hcr]; · iexact Hcr
    isplitl [HO]; · iexact HO
    isplitr; · iapply (mayWait_recv c hm hmn); iexact Hlev
    iexact Hat
  iintro ⟨HO, Hat, -, Hpay⟩
  ihave Hp := (Entails.of_eq (rest_recv A c hm)) $$ Hpay
  ihave Hp2 := (arrive_split A c m) $$ Hp
  icases Hp2 with ⟨Hp4, Hp2⟩
  iapply h
  unfold St
  rw [show m + 1 + 4 = m + 4 + 1 from by omega, show m + 1 + 2 = m + 2 + 1 from by omega, bigSep_Ico_succ_top (a := n) (b := m + 4) hnm,
    bigSep_Ico_succ_top (a := 0) (b := m + 2) (Nat.zero_le _), bigSep_Ico_succ_top (a := 0) (b := m) (Nat.zero_le _)]
  isplitr; · iexact Hinv
  isplitr; · iexact Hlev
  isplitl [HO]; · iexists _; iexact HO
  isplitl [Hsend]; · iexact Hsend
  isplitl [Hrecv]; · iexact Hrecv
  isplitl [Hfly]; · iexact Hfly
  isplitl [Hlend Hp4];
  · isplitl [Hp4]
    · iexact Hp4
    · iexact Hlend
  isplitl [Hav Hp2];
  · isplitl [Hp2]
    · iexact Hp2
    · iexact Hav
  isplitl [Hback]; · iexact Hback
  isplitl [Hrd Hat]
  · isplitl [Hat]
    · unfold recvd; iexact Hat
    · iexact Hrd
  isplitl [Hsd]; · iexact Hsd
  iexact Hst

/-- An own copy waited for, once nothing is owed. -/
theorem st_sent {m w : ℕ} (hw : w < 14) {sem : DmaSem sig} {κ' : Idealize.ShloMosaic.Kind} {sp sp' : Space} {s s' : Shape} {e e' : EltTy} (hsem : sem = sS w)
    {src : Memref sig .tc sp s e} {dst : Memref sig κ' sp' s' e'} (hN : dst.view.dmaCredit = N)
    {h1 : src.view.WordExact} {h2 : dst.view.WordExact}
    {α : Type} {k : PUnit → Prog (TpuEff nD τ sig (Elt F) Λ₀ .tc) α} {Q : α → sProp 𝕄}
    (h : St A X K c 14 m (w + 1) ⊢ Wp c (k ⟨⟩) Q) :
    St A X K c 14 m w ⊢ Wp c (.op (.waitDma2 sem src dst h1 h2) k) Q := by
  subst hsem
  unfold St
  rw [bigSep_Ico_succ_bot (a := w) hw, debt_end]
  iintro ⟨#Hinv, #Hlev, ⟨%W, HO⟩, Hsend, Hrecv, ⟨Hf, Hfly⟩, Hlend, Hav, Hback, Hrd, Hsd, Hst⟩
  unfold flying
  icases Hf with ⟨Hcr, Hat⟩
  iapply (Rounds.wp_wait_rest_token 𝒱₀ ER (ringRd A) (c : Thread nD τ) none (κ := K (sendCell c w)) (sm := .dma (sS w)) (k' := N)
      (fun K' => by rw [← hN]; exact wpE_waitDma2_eq 𝒱₀ (c : Thread nD τ) none Set.univ K') (Set.mem_univ _) () (O := 0) (W := W) (R := 0) (m := 0) (T := ∅)
      (by rw [expect_send A c hw, Nat.zero_add])) $$ [Hcr HO Hat]
  · isplitr; · iapply (inv_at A K (send_mem c hw)); iexact Hinv
    isplitl [Hcr]; · iexact Hcr
    isplitl [HO]; · iexact HO
    isplitr; · rw [MayWait_zero]; iempintro
    iexact Hat
  iintro ⟨HO, Hat, -, Hpay⟩
  ihave Hp := (Entails.of_eq (rest_send A c hw)) $$ Hpay
  iapply h
  unfold St
  rw [debt_end, bigSep_Ico_succ_top (a := 0) (b := w) (Nat.zero_le _), bigSep_Ico_succ_top (a := 0) (b := w) (Nat.zero_le _)]
  isplitr; · iexact Hinv
  isplitr; · iexact Hlev
  isplitl [HO]; · iexists _; iexact HO
  isplitl [Hsend]; · iexact Hsend
  isplitl [Hrecv]; · iexact Hrecv
  isplitl [Hfly]; · iexact Hfly
  isplitl [Hlend]; · iexact Hlend
  isplitl [Hav]; · iexact Hav
  isplitl [Hback Hp];
  · isplitl [Hp]
    · iexact Hp
    · iexact Hback
  isplitl [Hrd]; · iexact Hrd
  isplitl [Hsd Hat]
  · isplitl [Hat]
    · unfold sent; iexact Hat
    · iexact Hsd
  iexact Hst

/-! ## Sending -/

/-- A copy of the slots of position n, in the words of the two gathering buffers at once: the source lent, the landing
    filled. -/
theorem st_send_at {n m w : ℕ} (hn : n < 14) (hnm : n < m + 4) (hwn : w ≤ n) {s : Shape} {src dst : Memref sig .tc .vmem s .bf16}
    {fs : Buf (Elt F) (src.view.loc (c : Thread nD τ))}
    (hsrc : lend A c n = (src.view.loc (c : Thread nD τ) ↦[src.view.set]{lshare n} fs : sProp 𝕄))
    (hdst : (hole n (tgt c n) (schunk c (n / 2)) : sProp 𝕄) ⊢ iprop(∃ fd, dst.view.loc (tgt c n : Thread nD τ) ↦[dst.view.set]{fullShare} fd))
    (hland : ∀ fd, (dst.view.loc (tgt c n : Thread nD τ) ↦[dst.view.set]{fullShare} (dst.view.write (Elt F) fd (src.view.read (Elt F) fs) Finset.univ) : sProp 𝕄) ⊢ arrive A (tgt c n) n)
    (hN : dst.view.dmaCredit = N)
    {hsc : dst.view.ref.isScScratch = false} {h1 : src.view.WordExact} {h2 : dst.view.WordExact} {h3 : DmaTarget.Typed .vmem (.dma (rS n)) (.remote (tgt c n : Thread nD τ) dst (.dma (sS n)) hsc)}
    {α : Type} {k : PUnit → Prog (TpuEff nD τ sig (Elt F) Λ₀ .tc) α} {Q : α → sProp 𝕄}
    (h : St A X K c (n + 1) m w ⊢ Wp c (k ⟨⟩) Q) :
    St A X K c n m w ⊢ Wp c (.op (.enqueueDma src (.remote (tgt c n : Thread nD τ) dst (.dma (sS n)) hsc) (.dma (rS n)) h1 h2 h3) k) Q := by
  unfold St
  rw [bigSep_Ico_succ_bot (a := n) (b := 14) hn, bigSep_Ico_succ_bot (a := n) (b := 14) hn, bigSep_Ico_succ_bot (a := n) (b := m + 4) hnm]
  iintro ⟨#Hinv, #Hlev, ⟨%W, HO⟩, ⟨⟨Hland, Hlands⟩, Htick, Hticks⟩, Hrecv, Hfly, ⟨Hl, Hlend⟩, Hav, Hback, Hrd, Hsd, Hst⟩
  unfold ticket land
  icases Htick with ⟨HtR, HtS, #HrS, Hat⟩
  icases Hland with ⟨Hhole, #HrR⟩
  ihave Hs := (Entails.of_eq hsrc) $$ Hl
  ihave Hd := hdst $$ Hhole
  icases Hd with ⟨%fd, Hd⟩
  iapply (Rounds.wp_send_pointsTo 𝒱₀ ER (ringRd A) (c : Thread nD τ) none (c' := (tgt c n : Thread nD τ)) (src := src) (dst := dst)
      (sS := .dma (sS n)) (sem := .dma (rS n)) (κ₁ := K (sendCell c n)) (κ₂ := K (recvCell (tgt c n) n)) (r₁ := 0) (r₂ := 0) (d₁ := true) (d₂ := true) (q := lshare n) (fs := fs) (fd := fd)
      (by rw [duties_send A c hn]; exact Finset.mem_singleton_self _) (by rw [duties_recv A _ hn]; exact Finset.mem_singleton_self _)
      () () N hN (amount_send A c hn true) (amount_recv A _ hn true) (debt c (n + 1)) (debt_step c hn) (W := W)
      (by rw [payload_send A c hn, hsrc]) (by rw [payload_recv A _ hn]; exact hland fd)) $$ [Hs Hd HO HtS HtR]
  · isplitr; · iapply (inv_at A K (send_mem c hn)); iexact Hinv
    isplitr; · iapply (inv_at A K (recv_mem (tgt c n) hn)); iexact Hinv
    isplitl [Hs]; · iexact Hs
    isplitl [Hd]; · iexact Hd
    isplitl [HO]; · iexact HO
    isplitl [HtS]; · iexact HtS
    isplitr; · iexact HrS
    isplitl [HtR]; · iexact HtR
    iexact HrR
  iintro ⟨Hcr, HO⟩
  iapply h
  unfold St
  rw [bigSep_Ico_succ_top (a := w) (b := n) hwn]
  isplitr; · iexact Hinv
  isplitr; · iexact Hlev
  isplitl [HO]; · iexists _; iexact HO
  isplitl [Hlands Hticks];
  · isplitl [Hlands]
    · iexact Hlands
    · iexact Hticks
  isplitl [Hrecv]; · iexact Hrecv
  isplitl [Hfly Hcr Hat]
  · isplitl [Hcr Hat]
    · unfold flying; isplitl [Hcr] <;> iassumption
    · iexact Hfly
  isplitl [Hlend]; · iexact Hlend
  isplitl [Hav]; · iexact Hav
  isplitl [Hback]; · iexact Hback
  isplitl [Hrd]; · iexact Hrd
  isplitl [Hsd]; · iexact Hsd
  iexact Hst

end Cert.KernelIdeal.Own
-- ==== Proof.Ideal.Steps.lean ====
/-
  The steps of the run, each at the operands the program computes: the copies of the two gathering buffers, and the loads.
-/
module

public import proofs.«01_k».proof.Proof.Ideal.State

@[expose] public section

noncomputable section

namespace Cert.KernelIdeal.Own

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig Unit (Elt F) ℕ UU ℕ

variable (A : Weights F) (X : Inputs F) (K : GSem nD τ sig → ℕ) (c : Dev nD)

/-! ## Copies -/

abbrev wqPart {off : Fin 3 → ℕ} (inb : ∀ a, off a + S1x512x256.size a ≤ S8x512x256.size a) : Memref sig .tc .vmem S512x256 .bf16 :=
  ((Memref.whole cc0_scratch0 : Memref sig .tc .vmem S8x512x256 .bf16).slice (Rect.unit (s := S8x512x256) off S1x512x256.size inb) (fun _ => rfl)).squeeze S512x256 squeezes_S1x512x256_S512x256
abbrev woPart {off : Fin 3 → ℕ} (inb : ∀ a, off a + S1x256x512.size a ≤ S8x256x512.size a) : Memref sig .tc .vmem S256x512 .bf16 :=
  ((Memref.whole cc0_scratch1 : Memref sig .tc .vmem S8x256x512 .bf16).slice (Rect.unit (s := S8x256x512) off S1x256x512.size inb) (fun _ => rfl)).squeeze S256x512 squeezes_S1x256x512_S256x512

/-- An even position copies a slot of the first gathering buffer. -/
theorem st_send_wq {n m w : ℕ} (hn : n < 14) (hnm : n < m + 4) (hwn : w ≤ n) (h0 : n % 2 = 0) {off : Fin 3 → ℕ} (hoff : off = ![(schunk c (n / 2)).val, 0, 0])
    {inb : ∀ a, off a + S1x512x256.size a ≤ S8x512x256.size a} {t : Dev nD} (ht : t = tgt c n) {sS' rS' : DmaSem sig} (hs : sS' = sS n) (hr : rS' = rS n)
    {hsc : (wqPart inb).view.ref.isScScratch = false} {h1 h2 : (wqPart inb).view.WordExact} {h3 : DmaTarget.Typed .vmem (.dma rS') (.remote (t : Thread nD τ) (wqPart inb) (.dma sS') hsc)}
    {α : Type} {k : PUnit → Prog (TpuEff nD τ sig (Elt F) Λ₀ .tc) α} {Q : α → sProp 𝕄}
    (h : St A X K c (n + 1) m w ⊢ Wp c (k ⟨⟩) Q) :
    St A X K c n m w ⊢ Wp c (.op (.enqueueDma (wqPart inb) (.remote (t : Thread nD τ) (wqPart inb) (.dma sS') hsc) (.dma rS') h1 h2 h3) k) Q := by
  subst hoff ht hs hr
  refine st_send_at A X K c hn hnm hwn (src := wqSlot (schunk c (n / 2))) (dst := wqSlot (schunk c (n / 2))) (fs := wqAll A.wq) ?_ ?_ ?_ (credit_wq _) h
  · unfold lend piece; rw [if_pos h0, wq_set]
  · unfold hole; rw [if_pos h0, wq_set]; exact Entails.refl _
  · intro fd
    unfold arrive piece; rw [if_pos h0, View.write_read_eq_piecewise, show schunk (tgt c n) (n / 2 + 2) = schunk c (n / 2) from schunk_tgt ⟨n, hn⟩ c, wq_set]
    refine Entails.of_eq (pointsTo_congr fun i hi => ?_)
    exact Finset.piecewise_eq_of_mem _ _ _ (by rw [View.setOn_univ, wq_set]; exact hi)

/-- An odd position copies a slot of the second gathering buffer. -/
theorem st_send_wo {n m w : ℕ} (hn : n < 14) (hnm : n < m + 4) (hwn : w ≤ n) (h0 : n % 2 = 1) {off : Fin 3 → ℕ} (hoff : off = ![(schunk c (n / 2)).val, 0, 0])
    {inb : ∀ a, off a + S1x256x512.size a ≤ S8x256x512.size a} {t : Dev nD} (ht : t = tgt c n) {sS' rS' : DmaSem sig} (hs : sS' = sS n) (hr : rS' = rS n)
    {hsc : (woPart inb).view.ref.isScScratch = false} {h1 h2 : (woPart inb).view.WordExact} {h3 : DmaTarget.Typed .vmem (.dma rS') (.remote (t : Thread nD τ) (woPart inb) (.dma sS') hsc)}
    {α : Type} {k : PUnit → Prog (TpuEff nD τ sig (Elt F) Λ₀ .tc) α} {Q : α → sProp 𝕄}
    (h : St A X K c (n + 1) m w ⊢ Wp c (k ⟨⟩) Q) :
    St A X K c n m w ⊢ Wp c (.op (.enqueueDma (woPart inb) (.remote (t : Thread nD τ) (woPart inb) (.dma sS') hsc) (.dma rS') h1 h2 h3) k) Q := by
  subst hoff ht hs hr
  have hne : ¬ n % 2 = 0 := by omega
  refine st_send_at A X K c hn hnm hwn (src := woSlot (schunk c (n / 2))) (dst := woSlot (schunk c (n / 2))) (fs := woAll A.wo) ?_ ?_ ?_ (credit_wo _) h
  · unfold lend piece; rw [if_neg hne, wo_set]
  · unfold hole; rw [if_neg hne, wo_set]; exact Entails.refl _
  · intro fd
    unfold arrive piece; rw [if_neg hne, View.write_read_eq_piecewise, show schunk (tgt c n) (n / 2 + 2) = schunk c (n / 2) from schunk_tgt ⟨n, hn⟩ c, wo_set]
    refine Entails.of_eq (pointsTo_congr fun i hi => ?_)
    exact Finset.piecewise_eq_of_mem _ _ _ (by rw [View.setOn_univ, wo_set]; exact hi)

/-! ## Loads -/

/-- A load of a buffer that can be taken out of what is held and put back. -/
theorem ld_of {cs : CoreSpace} {s : Shape} {e : EltTy} {m : Memref sig .tc cs s e} {r : LoadRect s} {hl : m.view.LoadsAt r} {α : Type}
    {k : (r.shape.Idx → Elt F e) → Prog (TpuEff nD τ sig (Elt F) Λ₀ .tc) α} {Q : α → sProp 𝕄} {P : sProp 𝕄}
    {S : Finset (Idx (m.view.loc (c : Thread nD τ)))} {q : PosShare TreeShare} {f : Buf (Elt F) (m.view.loc (c : Thread nD τ))}
    (hS : m.view.setOn r.set ⊆ S)
    (hP : P ⊢ iprop((m.view.loc (c : Thread nD τ) ↦[S]{q} f) ∗ ((m.view.loc (c : Thread nD τ) ↦[S]{q} f) -∗ P)))
    {v : r.shape.Idx → Elt F e} (hv : m.view.readAt (Elt F) r f = v) (h : P ⊢ Wp c (k v) Q) :
    P ⊢ Wp c (.op (.load m r hl) k) Q := by
  subst hv
  refine hP.trans ?_
  iintro ⟨Hp, Hb⟩
  iapply (wp_load 𝒱₀ (c : Thread nD τ) none Set.univ (m := m) hS) $$ Hp
  iintro Hp
  iapply h
  iapply Hb
  iexact Hp

theorem st_staged (n m w : ℕ) : St A X K c n m w ⊢ iprop(staged A X c ∗ (staged A X c -∗ St A X K c n m w)) := by
  unfold St
  iintro ⟨#Hinv, #Hlev, HO, Hsend, Hrecv, Hfly, Hlend, Hav, Hback, Hrd, Hsd, Hst⟩
  isplitl [Hst]; · iexact Hst
  iintro Hst
  isplitr; · iexact Hinv
  isplitr; · iexact Hlev
  isplitl [HO]; · iexact HO
  isplitl [Hsend]; · iexact Hsend
  isplitl [Hrecv]; · iexact Hrecv
  isplitl [Hfly]; · iexact Hfly
  isplitl [Hlend]; · iexact Hlend
  isplitl [Hav]; · iexact Hav
  isplitl [Hback]; · iexact Hback
  isplitl [Hrd]; · iexact Hrd
  isplitl [Hsd]; · iexact Hsd
  iexact Hst

theorem st_avail {n m w i : ℕ} (hi : i < m + 2) : St A X K c n m w ⊢ iprop(avail A c i ∗ (avail A c i -∗ St A X K c n m w)) := by
  unfold St
  rw [show bigSep (Finset.Ico 0 (m + 2)) (avail A c) = iprop(avail A c i ∗ bigSep ((Finset.Ico 0 (m + 2)).erase i) (avail A c)) from bigSep_erase (Finset.mem_Ico.mpr ⟨Nat.zero_le i, hi⟩)]
  iintro ⟨#Hinv, #Hlev, HO, Hsend, Hrecv, Hfly, Hlend, ⟨Ha, Hav⟩, Hback, Hrd, Hsd, Hst⟩
  isplitl [Ha]; · iexact Ha
  iintro Ha
  isplitr; · iexact Hinv
  isplitr; · iexact Hlev
  isplitl [HO]; · iexact HO
  isplitl [Hsend]; · iexact Hsend
  isplitl [Hrecv]; · iexact Hrecv
  isplitl [Hfly]; · iexact Hfly
  isplitl [Hlend]; · iexact Hlend
  isplitl [Ha Hav]
  · isplitl [Ha]
    · iexact Ha
    · iexact Hav
  isplitl [Hback]; · iexact Hback
  isplitl [Hrd]; · iexact Hrd
  isplitl [Hsd]; · iexact Hsd
  iexact Hst

section Staged
variable {n m w : ℕ} {α : Type}

/-- The rows of a head of the keys and of the values: of head h of chunk d, the row 4 d + h. -/
abbrev rowRect (g : Fin 32) : Rect S32x2x256x64 := Rect.unit (s := S32x2x256x64) ![g.val, 0, 0, 0] S1x2x256x64.size (by revert g; decide)
/-- The row, as the loads give it. -/
def rowOf (f : Vec F S32x2x256x64 .bf16) (g : Fin 32) : Vec F S1x2x256x64 .bf16 := fun x => f ((rowRect g).emb x)
/-- The rows of the output weights of one head, 64 h to 64 h + 63: an element's place, and the rows as the loads give them. -/
def headIdx (h : Fin 4) (x : S1x64x512.Idx) : S1x256x512.Idx := fun
  | 0 => ⟨0, Nat.one_pos⟩
  | 1 => ⟨64 * h.val + (x 1).val, by have h1 : (x 1).val < 64 := (x 1).isLt; have h2 := h.isLt; show 64 * h.val + (x 1).val < 256; omega⟩
  | 2 => x 2
def headRows (f : Vec F S256x512 .bf16) (h : Fin 4) : Vec F S1x64x512 .bf16 := fun x => k0_pay9 (k0_pay8 f) (headIdx h x)

/-- Head h of chunk d. -/
abbrev headOf (d : Dev nD) (h : Fin 4) : Fin 32 := ⟨4 * d.val + h.val, by have h1 : d.val < 8 := d.isLt; have h2 := h.isLt; omega⟩

theorem st_ld_k {off : Fin 4 → ℕ} {d : Dev nD} {g : Fin 4} (hoff : off = ![4 * d.val + g.val, 0, 0, 0])
    {inb : ∀ a, off a + S1x2x256x64.size a ≤ S32x2x256x64.size a}
    {hl : (Memref.whole cc0_stg2_0 : Memref sig .tc .vmem S32x2x256x64 .bf16).view.LoadsAt (Rect.unit (s := S32x2x256x64) off S1x2x256x64.size inb).toLoadRect}
    {k : Vec F S1x2x256x64 .bf16 → Prog (TpuEff nD τ sig (Elt F) Λ₀ .tc) α} {Q : α → sProp 𝕄}
    (h : St A X K c n m w ⊢ Wp c (k (rowOf X.k (headOf d g))) Q) :
    St A X K c n m w ⊢ Wp c (.op (.load (Memref.whole cc0_stg2_0 : Memref sig .tc .vmem S32x2x256x64 .bf16) (Rect.unit (s := S32x2x256x64) off S1x2x256x64.size inb).toLoadRect hl) k) Q := by
  subst hoff
  refine ld_of c (S := Finset.univ) (q := fullShare) (f := X.k) (Finset.subset_univ _) ?_ rfl h
  refine (st_staged A X K c n m w).trans ?_
  unfold staged inputs
  iintro ⟨⟨⟨H0, H1, H2, H3, H4, H5⟩, H6⟩, Hb⟩
  isplitl [H2]; · iexact H2
  iintro H2; iapply Hb
  isplitr [H6]
  · isplitl [H0]; · iexact H0
    isplitl [H1]; · iexact H1
    isplitl [H2]; · iexact H2
    isplitl [H3]; · iexact H3
    isplitl [H4]; · iexact H4
    iexact H5
  iexact H6

theorem st_ld_v {off : Fin 4 → ℕ} {d : Dev nD} {g : Fin 4} (hoff : off = ![4 * d.val + g.val, 0, 0, 0])
    {inb : ∀ a, off a + S1x2x256x64.size a ≤ S32x2x256x64.size a}
    {hl : (Memref.whole cc0_stg3_0 : Memref sig .tc .vmem S32x2x256x64 .bf16).view.LoadsAt (Rect.unit (s := S32x2x256x64) off S1x2x256x64.size inb).toLoadRect}
    {k : Vec F S1x2x256x64 .bf16 → Prog (TpuEff nD τ sig (Elt F) Λ₀ .tc) α} {Q : α → sProp 𝕄}
    (h : St A X K c n m w ⊢ Wp c (k (rowOf X.v (headOf d g))) Q) :
    St A X K c n m w ⊢ Wp c (.op (.load (Memref.whole cc0_stg3_0 : Memref sig .tc .vmem S32x2x256x64 .bf16) (Rect.unit (s := S32x2x256x64) off S1x2x256x64.size inb).toLoadRect hl) k) Q := by
  subst hoff
  refine ld_of c (S := Finset.univ) (q := fullShare) (f := X.v) (Finset.subset_univ _) ?_ rfl h
  refine (st_staged A X K c n m w).trans ?_
  unfold staged inputs
  iintro ⟨⟨⟨H0, H1, H2, H3, H4, H5⟩, H6⟩, Hb⟩
  isplitl [H3]; · iexact H3
  iintro H3; iapply Hb
  isplitr [H6]
  · isplitl [H0]; · iexact H0
    isplitl [H1]; · iexact H1
    isplitl [H2]; · iexact H2
    isplitl [H3]; · iexact H3
    isplitl [H4]; · iexact H4
    iexact H5
  iexact H6

/-- The query weights of the chunk of index i (even), from the first gathering buffer. -/
theorem st_ld_wq {i : ℕ} (hi : i < m + 2) (h0 : i % 2 = 0) {off : Fin 3 → ℕ} (hoff : off = ![(schunk c (i / 2 + 1)).val, 0, 0])
    {inb : ∀ a, off a + S1x512x256.size a ≤ S8x512x256.size a}
    {hl : (Memref.whole cc0_scratch0 : Memref sig .tc .vmem S8x512x256 .bf16).view.LoadsAt (Rect.unit (s := S8x512x256) off S1x512x256.size inb).toLoadRect}
    {k : Vec F S1x512x256 .bf16 → Prog (TpuEff nD τ sig (Elt F) Λ₀ .tc) α} {Q : α → sProp 𝕄}
    (h : St A X K c n m w ⊢ Wp c (k (k0_pay7 (A.wq (schunk c (i / 2 + 1))))) Q) :
    St A X K c n m w ⊢ Wp c (.op (.load (Memref.whole cc0_scratch0 : Memref sig .tc .vmem S8x512x256 .bf16) (Rect.unit (s := S8x512x256) off S1x512x256.size inb).toLoadRect hl) k) Q := by
  subst hoff
  have hav : avail A c i = wqAt c (schunk c (i / 2 + 1)) fullShare.left (wqAll A.wq) := by unfold avail piece; rw [if_pos h0]
  refine ld_of c (S := (wqRect (schunk c (i / 2 + 1))).set) (q := fullShare.left) (f := wqAll A.wq) ?_ (by have := st_avail A X K c (n := n) (w := w) hi; rwa [hav] at this)
    (funext fun x => wqAll_emb A.wq _ x) h
  have hS : ((Memref.whole cc0_scratch0 : Memref sig .tc .vmem S8x512x256 .bf16).access (wqRect (schunk c (i / 2 + 1)))).set ⊆ (wqRect (schunk c (i / 2 + 1))).set :=
    (View.set_slice_whole _ _).subset
  rwa [View.set_slice] at hS

/-- The output weights of one head of the chunk of index i (odd), from the second gathering buffer. -/
theorem st_ld_wo {i : ℕ} (hi : i < m + 2) (h0 : i % 2 = 1) {g : Fin 4} {off : Fin 3 → ℕ} (hoff : off = ![(schunk c (i / 2 + 1)).val, 64 * g.val, 0])
    {inb : ∀ a, off a + S1x64x512.size a ≤ S8x256x512.size a}
    {hl : (Memref.whole cc0_scratch1 : Memref sig .tc .vmem S8x256x512 .bf16).view.LoadsAt (Rect.unit (s := S8x256x512) off S1x64x512.size inb).toLoadRect}
    {k : Vec F S1x64x512 .bf16 → Prog (TpuEff nD τ sig (Elt F) Λ₀ .tc) α} {Q : α → sProp 𝕄}
    (h : St A X K c n m w ⊢ Wp c (k (headRows (A.wo (schunk c (i / 2 + 1))) g)) Q) :
    St A X K c n m w ⊢ Wp c (.op (.load (Memref.whole cc0_scratch1 : Memref sig .tc .vmem S8x256x512 .bf16) (Rect.unit (s := S8x256x512) off S1x64x512.size inb).toLoadRect hl) k) Q := by
  subst hoff
  have hav : avail A c i = woAt c (schunk c (i / 2 + 1)) fullShare.left (woAll A.wo) := by unfold avail piece; rw [if_neg (by omega)]
  have h00 : ∀ x : S1x64x512.Idx, ((Rect.unit (s := S8x256x512) ![(schunk c (i / 2 + 1)).val, 64 * g.val, 0] S1x64x512.size inb).emb x) 0 = schunk c (i / 2 + 1) := fun x => Fin.ext (by
    rw [Rect.emb_apply]; show (schunk c (i / 2 + 1)).val + 1 * (x 0).val = _
    have : (x 0).val < 1 := (x 0).isLt
    omega)
  refine ld_of c (S := (woRect (schunk c (i / 2 + 1))).set) (q := fullShare.left) (f := woAll A.wo) ?_ (by have := st_avail A X K c (n := n) (w := w) hi; rwa [hav] at this)
    (funext fun x => ?_) h
  · have hS : ((Memref.whole cc0_scratch1 : Memref sig .tc .vmem S8x256x512 .bf16).access (Rect.unit (s := S8x256x512) ![(schunk c (i / 2 + 1)).val, 64 * g.val, 0] S1x64x512.size inb)).set
        ⊆ (woRect (schunk c (i / 2 + 1))).set := by
      intro j hj
      obtain ⟨x, -, rfl⟩ := Finset.mem_map.mp hj
      exact mem_wo.mpr (congrArg Fin.val (h00 x))
    rwa [View.set_slice] at hS
  · show woAll A.wo ((Rect.unit (s := S8x256x512) ![(schunk c (i / 2 + 1)).val, 64 * g.val, 0] S1x64x512.size inb).emb x) = _
    unfold woAll headRows
    have hin : woIn ((Rect.unit (s := S8x256x512) ![(schunk c (i / 2 + 1)).val, 64 * g.val, 0] S1x64x512.size inb).emb x) = headIdx g x := funext fun a => by
      match a with
      | 0 => rfl
      | 1 => exact Fin.ext (by show 64 * g.val + 1 * (x 1).val = 64 * g.val + (x 1).val; omega)
      | 2 => exact Fin.ext (by show 0 + 1 * (x 2).val = (x 2).val; omega)
    rw [hin]
    exact congrArg (fun d => k0_pay9 (k0_pay8 (A.wo d)) (headIdx g x)) (h00 x)

/-- The same loads by the chunk's number j, the own chunk 1, the one received at position p at p / 2 + 2. -/
theorem ld_wq {j : ℕ} (h0 : 0 < j) (hj : 2 * j < m + 4) {off : Fin 3 → ℕ} (hoff : off = ![(schunk c j).val, 0, 0])
    {inb : ∀ a, off a + S1x512x256.size a ≤ S8x512x256.size a}
    {hl : (Memref.whole cc0_scratch0 : Memref sig .tc .vmem S8x512x256 .bf16).view.LoadsAt (Rect.unit (s := S8x512x256) off S1x512x256.size inb).toLoadRect}
    {k : Vec F S1x512x256 .bf16 → Prog (TpuEff nD τ sig (Elt F) Λ₀ .tc) α} {Q : α → sProp 𝕄}
    (h : St A X K c n m w ⊢ Wp c (k (k0_pay7 (A.wq (schunk c j)))) Q) :
    St A X K c n m w ⊢ Wp c (.op (.load (Memref.whole cc0_scratch0 : Memref sig .tc .vmem S8x512x256 .bf16) (Rect.unit (s := S8x512x256) off S1x512x256.size inb).toLoadRect hl) k) Q := by
  obtain ⟨i, hi⟩ : ∃ i, i = 2 * (j - 1) := ⟨_, rfl⟩
  obtain rfl : j = i / 2 + 1 := by omega
  exact st_ld_wq A X K c (i := i) (by omega) (by omega) hoff h

theorem ld_wo {j : ℕ} (g : Fin 4) (h0 : 0 < j) (hj : 2 * j ≤ m + 2) {off : Fin 3 → ℕ} (hoff : off = ![(schunk c j).val, 64 * g.val, 0])
    {inb : ∀ a, off a + S1x64x512.size a ≤ S8x256x512.size a}
    {hl : (Memref.whole cc0_scratch1 : Memref sig .tc .vmem S8x256x512 .bf16).view.LoadsAt (Rect.unit (s := S8x256x512) off S1x64x512.size inb).toLoadRect}
    {k : Vec F S1x64x512 .bf16 → Prog (TpuEff nD τ sig (Elt F) Λ₀ .tc) α} {Q : α → sProp 𝕄}
    (h : St A X K c n m w ⊢ Wp c (k (headRows (A.wo (schunk c j)) g)) Q) :
    St A X K c n m w ⊢ Wp c (.op (.load (Memref.whole cc0_scratch1 : Memref sig .tc .vmem S8x256x512 .bf16) (Rect.unit (s := S8x256x512) off S1x64x512.size inb).toLoadRect hl) k) Q := by
  obtain ⟨i, hi⟩ : ∃ i, i = 2 * (j - 1) + 1 := ⟨_, rfl⟩
  obtain rfl : j = i / 2 + 1 := by omega
  exact st_ld_wo A X K c (i := i) (by omega) (by omega) hoff h

end Staged

/-! ## Sequencing -/

section Seq
variable {α β : Type}

theorem st_bind {P : sProp 𝕄} {p : Prog (TpuEff nD τ sig (Elt F) Λ₀ .tc) α} {k : α → Prog (TpuEff nD τ sig (Elt F) Λ₀ .tc) β} {Q : β → sProp 𝕄}
    (h : P ⊢ Wp c p (fun a => Wp c (k a) Q)) : P ⊢ Wp c (p >>= k) Q := by
  unfold Wp; rw [wp_bind]; exact h

theorem st_ret {P : sProp 𝕄} {v : α} {Q : α → sProp 𝕄} (h : P ⊢ Q v) : P ⊢ Wp c (.ret v) Q := by
  unfold Wp; exact h.trans (le_wp_ret (Fr := frame) (wpE := wpE (defs₀ (F := F)) 𝒱₀ (c : Thread nD τ) none) (E := Set.univ) v Q)

theorem st_dev {P : sProp 𝕄} {k : Dev nD → Prog (TpuEff nD τ sig (Elt F) Λ₀ .tc) α} {Q : α → sProp 𝕄} (h : P ⊢ Wp c (k c) Q) : P ⊢ Wp c (.op .deviceId k) Q := by
  unfold Wp; rw [wp_deviceId]; exact h

end Seq

end Cert.KernelIdeal.Own
-- ==== Proof.Ideal.Begin.lean ====
/-
  The beginning of the run: the barrier, and the own blocks put in their slots.
-/
module

public import proofs.«01_k».proof.Proof.Ideal.Steps

@[expose] public section

noncomputable section

namespace Cert.KernelIdeal.Own

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig Unit (Elt F) ℕ UU ℕ

variable (A : Weights F) (X : Inputs F) (K : GSem nD τ sig → ℕ) (c : Dev nD)

/-! ## What a device enters with, and the states of its first steps -/

/-- A slot of c in which a copy of position p lands, with that c's receive cell of p is open. -/
def slot (p : ℕ) : sProp 𝕄 := iprop(hole p c (schunk c (p / 2 + 2)) ∗ reached ER (recvCell c p) 0)

/-- What a unit of a neighbour's barrier is paid with: the duty, and the slots given away. -/
def giveL : sProp 𝕄 := iprop(dutyTok ER (barCell (left c)) 0 true ∗ reached ER (barCell (left c)) 0 ∗ bigSep (dirPos true) (slot c))
def giveR : sProp 𝕄 := iprop(dutyTok ER (barCell (right c)) 0 false ∗ reached ER (barCell (right c)) 0 ∗ bigSep (dirPos false) (slot c))

/-- What is held from the first step to the last of the beginning. -/
def common : sProp 𝕄 :=
  iprop(invs A K ∗ levAts L lv ∗ bigSep (Finset.Ico 0 14) (ticket c) ∗ bigSep (Finset.Ico 0 14) (toRecv c)
    ∗ hole 0 c (schunk c 1) ∗ hole 1 c (schunk c 1))

/-- What the barrier is waited for with. -/
def barWait : sProp 𝕄 := iprop(cred (tallyAt (barCell c) () 2) ∗ atPos ER (barCell c) 0 ∅ 0)

def debt₁ : CellTallies nD τ sig Unit := debt c 0 + tallyAt (barCell (right c)) () 1
def debt₀ : CellTallies nD τ sig Unit := debt₁ c + tallyAt (barCell (left c)) () 1

def S₀ : sProp 𝕄 := iprop(inputs A X c ∗ common A K c ∗ (∃ W, owes (c : Thread nD τ) (debt₀ c) W) ∗ giveL c ∗ giveR c ∗ barWait c)
def S₁ : sProp 𝕄 := iprop(inputs A X c ∗ common A K c ∗ (∃ W, owes (c : Thread nD τ) (debt₁ c) W) ∗ giveR c ∗ barWait c)
def S₂ : sProp 𝕄 := iprop(inputs A X c ∗ common A K c ∗ (∃ W, owes (c : Thread nD τ) (debt c 0) W) ∗ barWait c)
def S₃ : sProp 𝕄 := iprop(inputs A X c ∗ common A K c ∗ (∃ W, owes (c : Thread nD τ) (debt c 0) W) ∗ bigSep (Finset.Ico 0 14) (land c) ∗ atPos ER (barCell c) (0 + 1) ∅ 0)
/-- The own slot of the first buffer filled. -/
def S₄ : sProp 𝕄 :=
  iprop(inputs A X c ∗ (invs A K ∗ levAts L lv ∗ bigSep (Finset.Ico 0 14) (ticket c) ∗ bigSep (Finset.Ico 0 14) (toRecv c) ∗ piece A 0 c (schunk c 1) fullShare ∗ hole 1 c (schunk c 1))
    ∗ (∃ W, owes (c : Thread nD τ) (debt c 0) W) ∗ bigSep (Finset.Ico 0 14) (land c) ∗ atPos ER (barCell c) (0 + 1) ∅ 0)

/-- The slots c gives its left neighbour are the landings of that neighbour's rightward copies; and the other way. -/
theorem slot_left {p : ℕ} (hp : p ∈ dirPos true) : (slot c p : sProp 𝕄) = land (left c) p := by
  obtain ⟨h1, h2⟩ := Finset.mem_filter.mp hp
  have h3 : p < 14 := Finset.mem_range.mp h1
  have ht : tgt (left c) p = c := by unfold tgt; rw [if_pos (by simpa using h2), right_left]
  have hs := schunk_tgt ⟨p, h3⟩ (left c)
  unfold slot land
  rw [ht, ← hs, ht]
theorem slot_right {p : ℕ} (hp : p ∈ dirPos false) : (slot c p : sProp 𝕄) = land (right c) p := by
  obtain ⟨h1, h2⟩ := Finset.mem_filter.mp hp
  have h3 : p < 14 := Finset.mem_range.mp h1
  have ht : tgt (right c) p = c := by unfold tgt; rw [if_neg (by simpa using h2), left_right]
  have hs := schunk_tgt ⟨p, h3⟩ (right c)
  unfold slot land
  rw [ht, ← hs, ht]

theorem own_chunk : schunk c 1 = c := by revert c; decide
theorem own_chunk' : schunk c 0 = c := by revert c; decide

/-- The four lendings of the own slots, and the two kept halves. -/
theorem own_lend : (bigSep (Finset.Ico 0 (0 + 4)) (lend A c) : sProp 𝕄) =
    iprop(piece A 0 c (schunk c 1) fullShare.right.left ∗ piece A 1 c (schunk c 1) fullShare.right.left
      ∗ piece A 0 c (schunk c 1) fullShare.right.right ∗ piece A 1 c (schunk c 1) fullShare.right.right) := by
  have e : schunk c 0 = schunk c 1 := by rw [own_chunk]; exact own_chunk' c
  have e0 : lend A c 0 = piece A 0 c (schunk c 1) fullShare.right.left := by unfold lend; rw [show 0 / 2 = 0 from rfl, e]; rfl
  have e1 : lend A c (0 + 1) = piece A 1 c (schunk c 1) fullShare.right.left := by unfold lend; rw [show (0 + 1) / 2 = 0 from rfl, e]; rfl
  rw [bigSep_Ico_succ_bot (by decide), bigSep_Ico_succ_bot (by decide), bigSep_Ico_succ_bot (by decide), bigSep_Ico_one, e0, e1]
  rfl
theorem own_avail : (bigSep (Finset.Ico 0 (0 + 2)) (avail A c) : sProp 𝕄) =
    iprop(piece A 0 c (schunk c 1) fullShare.left ∗ piece A 1 c (schunk c 1) fullShare.left) := by
  rw [bigSep_Ico_succ_bot (by decide), bigSep_Ico_one]
  rfl

section Steps
variable {α : Type}

/-- The first signal: a unit of the left neighbour's barrier. -/
theorem sig_left {t : Dev nD} (ht : t = left c) {s : Sem sig} (hs : s = barS) {z : ℤ} (hz : z = ((1 : ℕ) : ℤ)) {k : PUnit → Prog (TpuEff nD τ sig (Elt F) Λ₀ .tc) α}
    {Q : α → sProp 𝕄} (h : S₁ A X K c ⊢ Wp c (k ⟨⟩) Q) : S₀ A X K c ⊢ Wp c (.op (.semSignal (t : Thread nD τ) s z) k) Q := by
  subst ht hs hz
  unfold S₀ giveL
  iintro ⟨Hin, Hcom, ⟨%W, HO⟩, ⟨Htok, #Hr, Hslots⟩, HR, Hbar⟩
  unfold common
  icases Hcom with ⟨#Hinv, Hcom⟩
  iapply (Rounds.wp_signal 𝒱₀ ER (ringRd A) (c : Thread nD τ) none (dst := (left c : Thread nD τ)) (sem := barS) (r := 0) (d := true) (k' := 1) (κ := K (barCell (left c)))
      (by rw [duties_bar]; exact Finset.mem_univ _) (amount_bar A (left c) true) () (debt₁ c) rfl) $$ [HO Htok Hslots]
  · isplitr; · iapply (inv_at A K (bar_mem (left c))); iexact Hinv
    isplitl [HO]; · iexact HO
    isplitl [Htok]; · iexact Htok
    isplitl [Hslots]
    · rw [payload_bar, ← bigSep_congr fun p hp => slot_left c hp]; iexact Hslots
    iexact Hr
  iintro HO
  iapply h
  unfold S₁ common
  isplitl [Hin]; · iexact Hin
  isplitl [Hcom]
  · isplitr; · iexact Hinv
    iexact Hcom
  isplitl [HO]; · iexists _; iexact HO
  isplitl [HR]; · iexact HR
  iexact Hbar

/-- The second: a unit of the right neighbour's. -/
theorem sig_right {t : Dev nD} (ht : t = right c) {s : Sem sig} (hs : s = barS) {z : ℤ} (hz : z = ((1 : ℕ) : ℤ)) {k : PUnit → Prog (TpuEff nD τ sig (Elt F) Λ₀ .tc) α}
    {Q : α → sProp 𝕄} (h : S₂ A X K c ⊢ Wp c (k ⟨⟩) Q) : S₁ A X K c ⊢ Wp c (.op (.semSignal (t : Thread nD τ) s z) k) Q := by
  subst ht hs hz
  unfold S₁ giveR
  iintro ⟨Hin, Hcom, ⟨%W, HO⟩, ⟨Htok, #Hr, Hslots⟩, Hbar⟩
  unfold common
  icases Hcom with ⟨#Hinv, Hcom⟩
  iapply (Rounds.wp_signal 𝒱₀ ER (ringRd A) (c : Thread nD τ) none (dst := (right c : Thread nD τ)) (sem := barS) (r := 0) (d := false) (k' := 1) (κ := K (barCell (right c)))
      (by rw [duties_bar]; exact Finset.mem_univ _) (amount_bar A (right c) false) () (debt c 0) rfl) $$ [HO Htok Hslots]
  · isplitr; · iapply (inv_at A K (bar_mem (right c))); iexact Hinv
    isplitl [HO]; · iexact HO
    isplitl [Htok]; · iexact Htok
    isplitl [Hslots]
    · rw [payload_bar, ← bigSep_congr fun p hp => slot_right c hp]; iexact Hslots
    iexact Hr
  iintro HO
  iapply h
  unfold S₂ common
  isplitl [Hin]; · iexact Hin
  isplitl [Hcom]
  · isplitr; · iexact Hinv
    iexact Hcom
  isplitl [HO]; · iexists _; iexact HO
  iexact Hbar

/-- The wait for both neighbours' units. -/
theorem wait_bar {s : Sem sig} (hs : s = barS) {z : ℤ} (hz : z = ((2 : ℕ) : ℤ)) {k : PUnit → Prog (TpuEff nD τ sig (Elt F) Λ₀ .tc) α}
    {Q : α → sProp 𝕄} (h : S₃ A X K c ⊢ Wp c (k ⟨⟩) Q) : S₂ A X K c ⊢ Wp c (.op (.semWait s z) k) Q := by
  subst hs hz
  unfold S₂ barWait
  iintro ⟨Hin, Hcom, ⟨%W, HO⟩, Hcr, Hat⟩
  unfold common
  icases Hcom with ⟨#Hinv, #Hlev, Hcom⟩
  iapply (Rounds.wp_wait_rest_token 𝒱₀ ER (ringRd A) (c : Thread nD τ) none (κ := K (barCell c)) (sm := .reg barS) (k' := 2)
      (wpE_semWait_eq 𝒱₀ (c : Thread nD τ) none Set.univ) (Set.mem_univ _) () (O := debt c 0) (W := W) (R := 0) (m := 0) (T := ∅)
      (by rw [expect_bar])) $$ [Hcr HO Hat]
  · isplitr; · iapply (inv_at A K (bar_mem c)); iexact Hinv
    isplitl [Hcr]; · iexact Hcr
    isplitl [HO]; · iexact HO
    isplitr; · iapply (mayWait_bar c); iexact Hlev
    iexact Hat
  iintro ⟨HO, Hat, -, Hpay⟩
  ihave Hp := (Entails.of_eq (rest_bar A c)) $$ Hpay
  iapply h
  unfold S₃ common
  isplitl [Hin]; · iexact Hin
  isplitl [Hcom]
  · isplitr; · iexact Hinv
    isplitr; · iexact Hlev
    iexact Hcom
  isplitl [HO]; · iexists _; iexact HO
  isplitl [Hp]; · iexact Hp
  iexact Hat

/-! ## The loads and stores before the first copy -/

/-- A load of a whole staged buffer. -/
theorem ld_x {off : Fin 3 → ℕ} (hoff : off = fun _ => 0) {inb : ∀ a, off a + S2x256x512.size a ≤ S2x256x512.size a} {R : sProp 𝕄}
    {hl : (Memref.whole cc0_stg0_0 : Memref sig .tc .vmem S2x256x512 .bf16).view.LoadsAt (Rect.unit (s := S2x256x512) off S2x256x512.size inb).toLoadRect}
    {k : Vec F S2x256x512 .bf16 → Prog (TpuEff nD τ sig (Elt F) Λ₀ .tc) α}
    {Q : α → sProp 𝕄} (h : iprop(inputs A X c ∗ R) ⊢ Wp c (k X.x) Q) :
    iprop(inputs A X c ∗ R) ⊢ Wp c (.op (.load (Memref.whole cc0_stg0_0 : Memref sig .tc .vmem S2x256x512 .bf16) (Rect.unit (s := S2x256x512) off S2x256x512.size inb).toLoadRect hl) k) Q := by
  refine ld_of c (S := Finset.univ) (q := fullShare) (f := X.x) (Finset.subset_univ _) ?_ (Memref.readAt_unit_zero (Elt F) cc0_stg0_0 hoff inb X.x) h
  unfold inputs
  iintro ⟨⟨H0, H1⟩, HR⟩
  isplitl [H0]; · iexact H0
  iintro H0
  isplitr [HR]
  · isplitl [H0]; · iexact H0
    iexact H1
  iexact HR

theorem ld_q {off : Fin 2 → ℕ} (hoff : off = fun _ => 0) {inb : ∀ a, off a + S512x256.size a ≤ S512x256.size a} {R : sProp 𝕄}
    {hl : (Memref.whole cc0_stg1_0 : Memref sig .tc .vmem S512x256 .bf16).view.LoadsAt (Rect.unit (s := S512x256) off S512x256.size inb).toLoadRect}
    {k : Vec F S512x256 .bf16 → Prog (TpuEff nD τ sig (Elt F) Λ₀ .tc) α}
    {Q : α → sProp 𝕄} (h : iprop(inputs A X c ∗ R) ⊢ Wp c (k (A.wq c)) Q) :
    iprop(inputs A X c ∗ R) ⊢ Wp c (.op (.load (Memref.whole cc0_stg1_0 : Memref sig .tc .vmem S512x256 .bf16) (Rect.unit (s := S512x256) off S512x256.size inb).toLoadRect hl) k) Q := by
  refine ld_of c (S := Finset.univ) (q := fullShare) (f := A.wq c) (Finset.subset_univ _) ?_ (Memref.readAt_unit_zero (Elt F) cc0_stg1_0 hoff inb (A.wq c)) h
  unfold inputs
  iintro ⟨⟨H0, H1, H2⟩, HR⟩
  isplitl [H1]; · iexact H1
  iintro H1
  isplitr [HR]
  · isplitl [H0]; · iexact H0
    isplitl [H1]; · iexact H1
    iexact H2
  iexact HR

theorem ld_o {off : Fin 2 → ℕ} (hoff : off = fun _ => 0) {inb : ∀ a, off a + S256x512.size a ≤ S256x512.size a} {R : sProp 𝕄}
    {hl : (Memref.whole cc0_stg4_0 : Memref sig .tc .vmem S256x512 .bf16).view.LoadsAt (Rect.unit (s := S256x512) off S256x512.size inb).toLoadRect}
    {k : Vec F S256x512 .bf16 → Prog (TpuEff nD τ sig (Elt F) Λ₀ .tc) α}
    {Q : α → sProp 𝕄} (h : iprop(inputs A X c ∗ R) ⊢ Wp c (k (A.wo c)) Q) :
    iprop(inputs A X c ∗ R) ⊢ Wp c (.op (.load (Memref.whole cc0_stg4_0 : Memref sig .tc .vmem S256x512 .bf16) (Rect.unit (s := S256x512) off S256x512.size inb).toLoadRect hl) k) Q := by
  refine ld_of c (S := Finset.univ) (q := fullShare) (f := A.wo c) (Finset.subset_univ _) ?_ (Memref.readAt_unit_zero (Elt F) cc0_stg4_0 hoff inb (A.wo c)) h
  unfold inputs
  iintro ⟨⟨H0, H1, H2, H3, H4, H5⟩, HR⟩
  isplitl [H4]; · iexact H4
  iintro H4
  isplitr [HR]
  · isplitl [H0]; · iexact H0
    isplitl [H1]; · iexact H1
    isplitl [H2]; · iexact H2
    isplitl [H3]; · iexact H3
    isplitl [H4]; · iexact H4
    iexact H5
  iexact HR

/-- The own slot of the first buffer: the load of what it held, which nothing uses, and the store of the own block. -/
theorem fill_wq {off : Fin 3 → ℕ} (hoff : off = ![(schunk c 1).val, 0, 0]) {inb inb' : ∀ a, off a + S1x512x256.size a ≤ S8x512x256.size a}
    {hl : (Memref.whole cc0_scratch0 : Memref sig .tc .vmem S8x512x256 .bf16).view.LoadsAt (Rect.unit (s := S8x512x256) off S1x512x256.size inb).toLoadRect}
    {hx : ((Memref.whole cc0_scratch0 : Memref sig .tc .vmem S8x512x256 .bf16).access (Rect.unit (s := S8x512x256) off S1x512x256.size inb')).Stores Finset.univ}
    {hm : (Finset.univ : Finset (Rect.unit (s := S8x512x256) off S1x512x256.size inb').shape.Idx) = Finset.univ ∨ ∀ a, (Rect.unit (s := S8x512x256) off S1x512x256.size inb').stride a = 1}
    {k : PUnit → Prog (TpuEff nD τ sig (Elt F) Λ₀ .tc) α}
    {Q : α → sProp 𝕄} (h : S₄ A X K c ⊢ Wp c (k ⟨⟩) Q) :
    S₃ A X K c ⊢ Wp c (.op (.load (Memref.whole cc0_scratch0 : Memref sig .tc .vmem S8x512x256 .bf16) (Rect.unit (s := S8x512x256) off S1x512x256.size inb).toLoadRect hl) fun _ =>
      .op (.store (Memref.whole cc0_scratch0 : Memref sig .tc .vmem S8x512x256 .bf16) (Rect.unit (s := S8x512x256) off S1x512x256.size inb') (k0_pay7 (A.wq c)) Finset.univ hx hm) k) Q := by
  subst hoff
  have hS : ((Memref.whole cc0_scratch0 : Memref sig .tc .vmem S8x512x256 .bf16).access (wqRect (schunk c 1))).set ⊆ (wqRect (schunk c 1)).set := (View.set_slice_whole _ _).subset
  have hS' := hS
  rw [View.set_slice] at hS'
  unfold S₃ common hole
  rw [if_pos (show 0 % 2 = 0 from rfl)]
  iintro ⟨Hin, ⟨#Hinv, #Hlev, Ht, Hv, ⟨%f, Hq⟩, Ho⟩, HR⟩
  iapply (wp_load 𝒱₀ (c : Thread nD τ) none Set.univ (m := (Memref.whole cc0_scratch0 : Memref sig .tc .vmem S8x512x256 .bf16)) hS') $$ Hq
  iintro Hq
  iapply (wp_store 𝒱₀ (c : Thread nD τ) none Set.univ (m := (Memref.whole cc0_scratch0 : Memref sig .tc .vmem S8x512x256 .bf16)) (r := wqRect (schunk c 1)) (Mk := Finset.univ) (w := k0_pay7 (A.wq c)) hS) $$ Hq
  iintro Hq
  iapply h
  unfold S₄ piece hole
  rw [if_pos (show 0 % 2 = 0 from rfl)]
  isplitl [Hin]; · iexact Hin
  isplitr [HR]
  · isplitr; · iexact Hinv
    isplitr; · iexact Hlev
    isplitl [Ht]; · iexact Ht
    isplitl [Hv]; · iexact Hv
    isplitl [Hq]
    · rw [show schunk c 1 = c from own_chunk c]
      iapply (Entails.of_eq (pointsTo_congr (wq_stored A.wq c f))); iexact Hq
    iexact Ho
  iexact HR

/-- The own slot of the second buffer likewise; then each own slot is shared among its loads and the copies that read it. -/
theorem fill_wo {off : Fin 3 → ℕ} (hoff : off = ![(schunk c 1).val, 0, 0]) {inb inb' : ∀ a, off a + S1x256x512.size a ≤ S8x256x512.size a}
    {hl : (Memref.whole cc0_scratch1 : Memref sig .tc .vmem S8x256x512 .bf16).view.LoadsAt (Rect.unit (s := S8x256x512) off S1x256x512.size inb).toLoadRect}
    {hx : ((Memref.whole cc0_scratch1 : Memref sig .tc .vmem S8x256x512 .bf16).access (Rect.unit (s := S8x256x512) off S1x256x512.size inb')).Stores Finset.univ}
    {hm : (Finset.univ : Finset (Rect.unit (s := S8x256x512) off S1x256x512.size inb').shape.Idx) = Finset.univ ∨ ∀ a, (Rect.unit (s := S8x256x512) off S1x256x512.size inb').stride a = 1}
    {k : PUnit → Prog (TpuEff nD τ sig (Elt F) Λ₀ .tc) α}
    {Q : α → sProp 𝕄} (h : St A X K c 0 0 0 ⊢ Wp c (k ⟨⟩) Q) :
    S₄ A X K c ⊢ Wp c (.op (.load (Memref.whole cc0_scratch1 : Memref sig .tc .vmem S8x256x512 .bf16) (Rect.unit (s := S8x256x512) off S1x256x512.size inb).toLoadRect hl) fun _ =>
      .op (.store (Memref.whole cc0_scratch1 : Memref sig .tc .vmem S8x256x512 .bf16) (Rect.unit (s := S8x256x512) off S1x256x512.size inb') (k0_pay9 (k0_pay8 (A.wo c))) Finset.univ hx hm) k) Q := by
  subst hoff
  have hS : ((Memref.whole cc0_scratch1 : Memref sig .tc .vmem S8x256x512 .bf16).access (woRect (schunk c 1))).set ⊆ (woRect (schunk c 1)).set := (View.set_slice_whole _ _).subset
  have hS' := hS
  rw [View.set_slice] at hS'
  unfold S₄ hole
  rw [if_neg (show ¬ 1 % 2 = 0 by decide)]
  iintro ⟨Hin, ⟨#Hinv, #Hlev, Ht, Hv, Hq, ⟨%f, Ho⟩⟩, HO, Hland, Hat⟩
  iapply (wp_load 𝒱₀ (c : Thread nD τ) none Set.univ (m := (Memref.whole cc0_scratch1 : Memref sig .tc .vmem S8x256x512 .bf16)) hS') $$ Ho
  iintro Ho
  iapply (wp_store 𝒱₀ (c : Thread nD τ) none Set.univ (m := (Memref.whole cc0_scratch1 : Memref sig .tc .vmem S8x256x512 .bf16)) (r := woRect (schunk c 1)) (Mk := Finset.univ) (w := k0_pay9 (k0_pay8 (A.wo c))) hS) $$ Ho
  iintro Ho
  iapply h
  ihave Ho1 : piece A 1 c (schunk c 1) fullShare $$ [Ho]
  · unfold piece
    rw [if_neg (show ¬ 1 % 2 = 0 by decide), own_chunk]
    iapply (Entails.of_eq (pointsTo_congr (wo_stored A.wo c f))); iexact Ho
  ihave Hq' := (piece_share A 0 c (schunk c 1) fullShare).1 $$ Hq
  icases Hq' with ⟨Hq0, Hq1⟩
  ihave Hq'' := (piece_share A 0 c (schunk c 1) fullShare.right).1 $$ Hq1
  icases Hq'' with ⟨Hq1, Hq2⟩
  ihave Ho' := (piece_share A 1 c (schunk c 1) fullShare).1 $$ Ho1
  icases Ho' with ⟨Ho0, Ho1⟩
  ihave Ho'' := (piece_share A 1 c (schunk c 1) fullShare.right).1 $$ Ho1
  icases Ho'' with ⟨Ho1, Ho2⟩
  unfold St staged
  rw [show Finset.Ico 0 0 = ∅ from rfl, bigSep_empty, bigSep_empty, bigSep_empty, bigSep_empty, own_lend, own_avail]
  isplitr; · iexact Hinv
  isplitr; · iexact Hlev
  isplitl [HO]; · iexact HO
  isplitl [Hland Ht]
  · isplitl [Hland]; · iexact Hland
    iexact Ht
  isplitl [Hv]; · iexact Hv
  isplitr; · iempintro
  isplitl [Hq1 Hq2 Ho1 Ho2]
  · isplitl [Hq1]; · iexact Hq1
    isplitl [Ho1]; · iexact Ho1
    isplitl [Hq2]; · iexact Hq2
    iexact Ho2
  isplitl [Hq0 Ho0]
  · isplitl [Hq0]; · iexact Hq0
    iexact Ho0
  isplitr; · iempintro
  isplitr; · iempintro
  isplitr; · iempintro
  isplitl [Hin]; · iexact Hin
  iexact Hat

/-- The result: the load of what its buffer held, which nothing uses, and its store. -/
theorem put_result {res v : Vec F S2x256x512 .f32} (hv : v = res) {n m w : ℕ} {off : Fin 3 → ℕ} (hoff : off = fun _ => 0) {inb inb' : ∀ a, off a + S2x256x512.size a ≤ S2x256x512.size a}
    {hl : (Memref.whole cc0_stg5_0 : Memref sig .tc .vmem S2x256x512 .f32).view.LoadsAt (Rect.unit (s := S2x256x512) off S2x256x512.size inb).toLoadRect}
    {hx : ((Memref.whole cc0_stg5_0 : Memref sig .tc .vmem S2x256x512 .f32).access (Rect.unit (s := S2x256x512) off S2x256x512.size inb')).Stores Finset.univ}
    {hm : (Finset.univ : Finset (Rect.unit (s := S2x256x512) off S2x256x512.size inb').shape.Idx) = Finset.univ ∨ ∀ a, (Rect.unit (s := S2x256x512) off S2x256x512.size inb').stride a = 1}
    {k : PUnit → Prog (TpuEff nD τ sig (Elt F) Λ₀ .tc) α}
    {Q : α → sProp 𝕄} (h : St A { X with r := (· = res) } K c n m w ⊢ Wp c (k ⟨⟩) Q) :
    St A X K c n m w ⊢ Wp c (.op (.load (Memref.whole cc0_stg5_0 : Memref sig .tc .vmem S2x256x512 .f32) (Rect.unit (s := S2x256x512) off S2x256x512.size inb).toLoadRect hl) fun _ =>
      .op (.store (Memref.whole cc0_stg5_0 : Memref sig .tc .vmem S2x256x512 .f32) (Rect.unit (s := S2x256x512) off S2x256x512.size inb') v Finset.univ hx hm) k) Q := by
  subst hoff hv
  unfold St staged inputs
  iintro ⟨H1, H2, H3, H4, H5, H6, H7, H8, H9, H10, H11, ⟨I1, I2, I3, I4, I5, ⟨%f, -, I6⟩⟩, Hat⟩
  iapply (wp_load 𝒱₀ (c : Thread nD τ) none Set.univ (m := (Memref.whole cc0_stg5_0 : Memref sig .tc .vmem S2x256x512 .f32)) (Finset.subset_univ _)) $$ I6
  iintro I6
  iapply (wp_store 𝒱₀ (c : Thread nD τ) none Set.univ (m := (Memref.whole cc0_stg5_0 : Memref sig .tc .vmem S2x256x512 .f32)) (r := Rect.unit (s := S2x256x512) (fun _ => 0) S2x256x512.size inb') (Mk := Finset.univ) (w := v) (Finset.subset_univ _)) $$ I6
  iintro I6
  iapply h
  unfold St staged inputs
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitr [Hat]
  · isplitl [I1]; · iexact I1
    isplitl [I2]; · iexact I2
    isplitl [I3]; · iexact I3
    isplitl [I4]; · iexact I4
    isplitl [I5]; · iexact I5
    iexists _
    isplitr; swap
    · iexact I6
    ipureintro
    exact Memref.write_access_unit_zero_univ (Elt F) cc0_stg5_0 rfl inb' _ v
  iexact Hat

end Steps

end Cert.KernelIdeal.Own
-- ==== Proof.Ideal.Math.lean ====
/-
  What the body computes, chunk by chunk, as a term of its loads.
-/
module

public import proofs.«01_k».proof.Proof.Ideal.Steps

@[expose] public section

noncomputable section

namespace Cert.KernelIdeal.Own

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig Unit (Elt F) ℕ UU ℕ

variable (A : Weights F) (X : Inputs F) (K : GSem nD τ sig → ℕ) (c : Dev nD)

/-! ## The mathematics of the run, chunk by chunk -/

/-- Which scores are kept: those whose two positions lie in the same stretch of 64. -/
def keep : IVec S1x256x256 1 := k0_pay5 k0_pay1 (iota .tc S256x256 32 [1] iota_S256x256_d1_w32) 64#32 k0_pay2 k0_pay3 k0_pay4

theorem slicesHead : ∀ h : Fin 4, S512x256.Slices ![0, 64 * h.val] S512x64 := by decide

/-- The scores of a head: its queries by its keys, scaled, and the ones not kept made very small. -/
def scores (q : FVec F S512x64 .bf16) (k : Vec F S1x2x256x64 .bf16) : FVec F S2x256x256 .f32 :=
  select (broadcastTo S2x256x256 (shapeCast S1x256x256 keep shapeCasts_S1x256x256_S1x256x256) broadcasts_S1x256x256_S2x256x256)
    (mulf (matmul dot_S2x256x64_S2x256x64_S2x256x256_2_2_1_1_0_0 none (shapeCast S2x256x64 q shapeCasts_S512x64_S2x256x64) (shapeCast S2x256x64 k shapeCasts_S1x2x256x64_S2x256x64) (constant S2x256x256 .f32 0x00000000#32))
      (broadcast S2x256x256 (Scalar.ofBits .f32 0x3E000000#32)))
    (broadcast S2x256x256 (Scalar.ofBits .f32 0xCE6E6B28#32))

/-- The exponentials of scores, each row against its maximum. -/
def expRow (s : FVec F S2x256x256 .f32) : FVec F S2x256x256 .f32 :=
  exp (subf s (broadcastTo S2x256x256 (shapeCast S2x256x1 (multiReduction .maximumf [2] S2x256 s 0xFF800000#32 reduces_S2x256x256_S2x256 (.inl rfl) rfl) shapeCasts_S2x256_S2x256x1) broadcasts_S2x256x1_S2x256x256))

/-- The weights of a row: its exponentials over their sum. -/
def weights (e : FVec F S2x256x256 .f32) : FVec F S2x256x256 .bf16 :=
  truncf .bf16 (divf e (broadcastTo S2x256x256 (shapeCast S2x256x1 (multiReduction .add [2] S2x256 e 0x00000000#32 reduces_S2x256x256_S2x256 (.inl rfl) rfl) shapeCasts_S2x256_S2x256x1) broadcasts_S2x256x1_S2x256x256)) bitsLt_bf16_f32

/-- A head's context through its rows of the output weight. -/
def headOut (q : FVec F S512x64 .bf16) (k v : Vec F S1x2x256x64 .bf16) (wo : Vec F S1x64x512 .bf16) : FVec F S512x512 .f32 :=
  matmul dot_S512x64_S64x512_S512x512_1_0_0_1_n_n none
    (shapeCast S512x64 (truncf .bf16 (matmul dot_S2x256x256_S2x256x64_S2x256x64_2_1_1_2_0_0 none (weights (expRow (scores q k))) (shapeCast S2x256x64 v shapeCasts_S1x2x256x64_S2x256x64) (constant S2x256x64 .f32 0x00000000#32)) bitsLt_bf16_f32) shapeCasts_S2x256x64_S512x64)
    (shapeCast S64x512 wo shapeCasts_S1x64x512_S64x512) (constant S512x512 .f32 0x00000000#32)

/-- A chunk's queries. -/
def queries (x : Vec F S2x256x512 .bf16) (wq : Vec F S512x256 .bf16) : FVec F S512x256 .bf16 := k0_pay11 (k0_pay6 x) (k0_pay7 wq)

/-- Head h of chunk d added to an accumulator. -/
def addHead (d : Dev nD) (h : Fin 4) (acc : FVec F S512x512 .f32) : FVec F S512x512 .f32 :=
  addf acc (headOut (extractStridedSlice S512x64 ![0, 64 * h.val] (queries X.x (A.wq d)) (slicesHead h)) (rowOf X.k (headOf d h)) (rowOf X.v (headOf d h)) (headRows (A.wo d) h))

/-- A chunk's four heads. -/
def addChunk (d : Dev nD) (acc : FVec F S512x512 .f32) : FVec F S512x512 .f32 :=
  addHead A X d 3 (addHead A X d 2 (addHead A X d 1 (addHead A X d 0 acc)))

/-- The accumulator after the first n chunks, in the order in which c takes them. -/
def acc (c : Dev nD) : ℕ → FVec F S512x512 .f32
  | 0 => k0_pay10
  | n + 1 => addChunk A X (schunk c (n + 1)) (acc c n)

/-- What device c computes. -/
def result (c : Dev nD) : Vec F S2x256x512 .f32 := shapeCast S2x256x512 (acc A X c 8) shapeCasts_S512x512_S2x256x512

end Cert.KernelIdeal.Own
-- ==== Proof.Ideal.Body.lean ====
/-
  The run of the body, from the barrier to the last wait.
-/
module

public import proofs.«01_k».proof.Proof.Ideal.Begin
public import proofs.«01_k».proof.Proof.Ideal.Math

@[expose] public section

noncomputable section

namespace Cert.KernelIdeal.Own

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig Unit (Elt F) ℕ UU ℕ

variable (A : Weights F) (X : Inputs F) (K : GSem nD τ sig → ℕ) (c : Dev nD)

/-! ## The devices and the offsets the program computes -/

theorem dev1 : ∀ c : Dev nD, (⟨k0_dev1 c, k0_dev1_lt c⟩ : Dev nD) = left c := by decide
theorem dev2 : ∀ c : Dev nD, (⟨k0_dev2 c, k0_dev2_lt c⟩ : Dev nD) = right c := by decide
theorem dev3 : ∀ c : Dev nD, (⟨k0_dev3 c, k0_dev3_lt c⟩ : Dev nD) = tgt c 0 := by decide
theorem dev4 : ∀ c : Dev nD, (⟨k0_dev4 c, k0_dev4_lt c⟩ : Dev nD) = tgt c 1 := by decide
theorem dev5 : ∀ c : Dev nD, (⟨k0_dev5 c, k0_dev5_lt c⟩ : Dev nD) = tgt c 2 := by decide
theorem dev6 : ∀ c : Dev nD, (⟨k0_dev6 c, k0_dev6_lt c⟩ : Dev nD) = tgt c 3 := by decide
theorem dev7 : ∀ c : Dev nD, (⟨k0_dev7 c, k0_dev7_lt c⟩ : Dev nD) = tgt c 4 := by decide
theorem dev8 : ∀ c : Dev nD, (⟨k0_dev8 c, k0_dev8_lt c⟩ : Dev nD) = tgt c 5 := by decide
theorem dev9 : ∀ c : Dev nD, (⟨k0_dev9 c, k0_dev9_lt c⟩ : Dev nD) = tgt c 6 := by decide
theorem dev10 : ∀ c : Dev nD, (⟨k0_dev10 c, k0_dev10_lt c⟩ : Dev nD) = tgt c 7 := by decide
theorem dev11 : ∀ c : Dev nD, (⟨k0_dev11 c, k0_dev11_lt c⟩ : Dev nD) = tgt c 8 := by decide
theorem dev12 : ∀ c : Dev nD, (⟨k0_dev12 c, k0_dev12_lt c⟩ : Dev nD) = tgt c 9 := by decide
theorem dev13 : ∀ c : Dev nD, (⟨k0_dev13 c, k0_dev13_lt c⟩ : Dev nD) = tgt c 10 := by decide
theorem dev14 : ∀ c : Dev nD, (⟨k0_dev14 c, k0_dev14_lt c⟩ : Dev nD) = tgt c 11 := by decide
theorem dev15 : ∀ c : Dev nD, (⟨k0_dev15 c, k0_dev15_lt c⟩ : Dev nD) = tgt c 12 := by decide
theorem dev16 : ∀ c : Dev nD, (⟨k0_dev16 c, k0_dev16_lt c⟩ : Dev nD) = tgt c 13 := by decide

theorem off_own_left : ∀ c : Dev nD, k0_off3 c = ![(schunk c 1).val, 0, 0] ∧ k0_off4 c = ![(schunk c 1).val, 0, 0] := by decide
theorem zero3 : (![0, 0, 0] : Fin 3 → ℕ) = fun _ => 0 := by decide
theorem zero2 : (![0, 0] : Fin 2 → ℕ) = fun _ => 0 := by decide

/-- The kernel's body on the staged buffers. -/
abbrev body (F : FTy → Type) [FloatOps F] : Prog (TpuEff nD τ sig (Elt F) Λ₀ .tc) PUnit :=
  cc0_body (Memref.whole cc0_stg0_0) (Memref.isWhole_whole _) (Memref.whole cc0_stg1_0) (Memref.isWhole_whole _) (Memref.whole cc0_stg2_0) (Memref.isWhole_whole _)
    (Memref.whole cc0_stg3_0) (Memref.isWhole_whole _) (Memref.whole cc0_stg4_0) (Memref.isWhole_whole _) (Memref.whole cc0_stg5_0) (Memref.isWhole_whole _)
    (Memref.whole cc0_scratch0) (Memref.isWhole_whole _) (Memref.whole cc0_scratch1) (Memref.isWhole_whole _) cc0_scratch2 cc0_scratch3 cc0_scratch4 cc0_scratch5

set_option maxHeartbeats 4000000 in
set_option maxRecDepth 20000 in
theorem run_body {Q : PUnit → sProp 𝕄} (h : St A { X with r := (· = result A X c) } K c 14 14 14 ⊢ Q ⟨⟩) : S₀ A X K c ⊢ Wp c (body F) Q := by
  unfold body
  rw [cc0_body_eq_skeleton]
  refine st_bind c ?_; rw [k0_part46_eq_skeleton]
  refine st_bind c ?_; rw [k0_part1_eq_skeleton]
  refine st_dev c ?_
  refine st_ret c ?_
  refine st_bind c ?_; rw [k0_part2_eq_skeleton]
  refine ld_x A X c zero3 ?_
  refine sig_left A X K c (dev1 c) rfl rfl ?_
  refine sig_right A X K c (dev2 c) rfl rfl ?_
  refine wait_bar A X K c rfl rfl ?_
  refine ld_q A X c zero2 ?_
  refine fill_wq A X K c (off_own c).1 ?_
  refine ld_o A X c zero2 ?_
  refine st_ret c ?_
  refine st_bind c ?_; rw [k0_part3_eq_skeleton]
  refine fill_wo A X K c (off_own c).2.1 ?_
  refine st_send_wq A X K c (n := 0) (by decide) (by decide) (by decide) rfl (off_own c).2.2.1 (dev3 c) rfl rfl ?_
  refine st_send_wo A X K c (n := 1) (by decide) (by decide) (by decide) rfl (off_own c).2.2.2 (dev4 c) rfl rfl ?_
  refine st_ret c ?_
  refine st_bind c ?_; rw [k0_part4_eq_skeleton]
  refine st_send_wq A X K c (n := 2) (by decide) (by decide) (by decide) rfl (off_own_left c).1 (dev5 c) rfl rfl ?_
  refine st_send_wo A X K c (n := 3) (by decide) (by decide) (by decide) rfl (off_own_left c).2 (dev6 c) rfl rfl ?_
  refine ld_wq A X K c (by decide) (by decide) (off_own c).1 ?_
  refine st_ld_k A X K c (off_ownK c 0) ?_
  refine st_ld_v A X K c (off_ownK c 0) ?_
  refine st_ret c ?_
  refine st_bind c ?_; rw [k0_part5_eq_skeleton]
  refine ld_wo A X K c 0 (by decide) (by decide) (off_ownW c).1 ?_
  refine st_ld_k A X K c (off_ownK c 1) ?_
  refine st_ld_v A X K c (off_ownK c 1) ?_
  refine st_ret c ?_
  refine st_bind c ?_; rw [k0_part6_eq_skeleton]
  refine ld_wo A X K c 1 (by decide) (by decide) (off_ownW c).2.1 ?_
  refine st_ld_k A X K c (off_ownK c 2) ?_
  refine st_ld_v A X K c (off_ownK c 2) ?_
  refine st_ret c ?_
  refine st_bind c ?_; rw [k0_part7_eq_skeleton]
  refine ld_wo A X K c 2 (by decide) (by decide) (off_ownW c).2.2.1 ?_
  refine st_ld_k A X K c (off_ownK c 3) ?_
  refine st_ld_v A X K c (off_ownK c 3) ?_
  refine st_ret c ?_
  refine st_bind c ?_; rw [k0_part8_eq_skeleton]
  refine ld_wo A X K c 3 (by decide) (by decide) (off_ownW c).2.2.2 ?_
  refine st_recv A X K c (by decide) (by decide) (by decide) rfl (by rfl) ?_
  refine st_recv A X K c (by decide) (by decide) (by decide) rfl (by rfl) ?_
  refine st_ret c ?_
  refine st_bind c ?_; rw [k0_part9_eq_skeleton]
  refine st_send_wq A X K c (n := 4) (by decide) (by decide) (by decide) rfl (off_fwdR c 0).1 (dev7 c) rfl rfl ?_
  refine st_send_wo A X K c (n := 5) (by decide) (by decide) (by decide) rfl (off_fwdR c 0).2 (dev8 c) rfl rfl ?_
  refine st_recv A X K c (by decide) (by decide) (by decide) rfl (by rfl) ?_
  refine st_ret c ?_
  refine st_bind c ?_; rw [k0_part10_eq_skeleton]
  refine st_recv A X K c (by decide) (by decide) (by decide) rfl (by rfl) ?_
  refine st_send_wq A X K c (n := 6) (by decide) (by decide) (by decide) rfl (off_fwdL c 0).1 (dev9 c) rfl rfl ?_
  refine st_send_wo A X K c (n := 7) (by decide) (by decide) (by decide) rfl (off_fwdL c 0).2 (dev10 c) rfl rfl ?_
  refine ld_wq A X K c (by decide) (by decide) (off_R c 0).1 ?_
  refine st_ret c ?_
  refine st_bind c ?_; rw [k0_part11_eq_skeleton]
  refine st_ld_k A X K c (off_RK c 0 0) ?_
  refine st_ld_v A X K c (off_RK c 0 0) ?_
  refine ld_wo A X K c 0 (by decide) (by decide) (off_R c 0).2.1 ?_
  refine st_ret c ?_
  refine st_bind c ?_; rw [k0_part12_eq_skeleton]
  refine st_ld_k A X K c (off_RK c 0 1) ?_
  refine st_ld_v A X K c (off_RK c 0 1) ?_
  refine ld_wo A X K c 1 (by decide) (by decide) (off_R c 0).2.2.1 ?_
  refine st_ret c ?_
  refine st_bind c ?_; rw [k0_part13_eq_skeleton]
  refine st_ld_k A X K c (off_RK c 0 2) ?_
  refine st_ld_v A X K c (off_RK c 0 2) ?_
  refine ld_wo A X K c 2 (by decide) (by decide) (off_R c 0).2.2.2.1 ?_
  refine st_ld_k A X K c (off_RK c 0 3) ?_
  refine st_ret c ?_
  refine st_bind c ?_; rw [k0_part14_eq_skeleton]
  refine st_ld_v A X K c (off_RK c 0 3) ?_
  refine ld_wo A X K c 3 (by decide) (by decide) (off_R c 0).2.2.2.2 ?_
  refine ld_wq A X K c (by decide) (by decide) (off_L c 0).1 ?_
  refine st_ret c ?_
  refine st_bind c ?_; rw [k0_part15_eq_skeleton]
  refine st_ld_k A X K c (off_LK c 0 0) ?_
  refine st_ld_v A X K c (off_LK c 0 0) ?_
  refine ld_wo A X K c 0 (by decide) (by decide) (off_L c 0).2.1 ?_
  refine st_ld_k A X K c (off_LK c 0 1) ?_
  refine st_ret c ?_
  refine st_bind c ?_; rw [k0_part16_eq_skeleton]
  refine st_ld_v A X K c (off_LK c 0 1) ?_
  refine ld_wo A X K c 1 (by decide) (by decide) (off_L c 0).2.2.1 ?_
  refine st_ld_k A X K c (off_LK c 0 2) ?_
  refine st_ret c ?_
  refine st_bind c ?_; rw [k0_part17_eq_skeleton]
  refine st_ld_v A X K c (off_LK c 0 2) ?_
  refine ld_wo A X K c 2 (by decide) (by decide) (off_L c 0).2.2.2.1 ?_
  refine st_ld_k A X K c (off_LK c 0 3) ?_
  refine st_ret c ?_
  refine st_bind c ?_; rw [k0_part18_eq_skeleton]
  refine st_ld_v A X K c (off_LK c 0 3) ?_
  refine ld_wo A X K c 3 (by decide) (by decide) (off_L c 0).2.2.2.2 ?_
  refine st_ret c ?_
  refine st_bind c ?_; rw [k0_part19_eq_skeleton]
  refine st_recv A X K c (by decide) (by decide) (by decide) rfl (by rfl) ?_
  refine st_recv A X K c (by decide) (by decide) (by decide) rfl (by rfl) ?_
  refine st_send_wq A X K c (n := 8) (by decide) (by decide) (by decide) rfl (off_fwdR c 1).1 (dev11 c) rfl rfl ?_
  refine st_send_wo A X K c (n := 9) (by decide) (by decide) (by decide) rfl (off_fwdR c 1).2 (dev12 c) rfl rfl ?_
  refine st_ret c ?_
  refine st_bind c ?_; rw [k0_part20_eq_skeleton]
  refine st_recv A X K c (by decide) (by decide) (by decide) rfl (by rfl) ?_
  refine st_recv A X K c (by decide) (by decide) (by decide) rfl (by rfl) ?_
  refine st_send_wq A X K c (n := 10) (by decide) (by decide) (by decide) rfl (off_fwdL c 1).1 (dev13 c) rfl rfl ?_
  refine st_ret c ?_
  refine st_bind c ?_; rw [k0_part21_eq_skeleton]
  refine st_send_wo A X K c (n := 11) (by decide) (by decide) (by decide) rfl (off_fwdL c 1).2 (dev14 c) rfl rfl ?_
  refine ld_wq A X K c (by decide) (by decide) (off_R c 1).1 ?_
  refine st_ld_k A X K c (off_RK c 1 0) ?_
  refine st_ld_v A X K c (off_RK c 1 0) ?_
  refine st_ret c ?_
  refine st_bind c ?_; rw [k0_part22_eq_skeleton]
  refine ld_wo A X K c 0 (by decide) (by decide) (off_R c 1).2.1 ?_
  refine st_ld_k A X K c (off_RK c 1 1) ?_
  refine st_ld_v A X K c (off_RK c 1 1) ?_
  refine st_ret c ?_
  refine st_bind c ?_; rw [k0_part23_eq_skeleton]
  refine ld_wo A X K c 1 (by decide) (by decide) (off_R c 1).2.2.1 ?_
  refine st_ld_k A X K c (off_RK c 1 2) ?_
  refine st_ld_v A X K c (off_RK c 1 2) ?_
  refine st_ret c ?_
  refine st_bind c ?_; rw [k0_part24_eq_skeleton]
  refine ld_wo A X K c 2 (by decide) (by decide) (off_R c 1).2.2.2.1 ?_
  refine st_ld_k A X K c (off_RK c 1 3) ?_
  refine st_ld_v A X K c (off_RK c 1 3) ?_
  refine st_ret c ?_
  refine st_bind c ?_; rw [k0_part25_eq_skeleton]
  refine ld_wo A X K c 3 (by decide) (by decide) (off_R c 1).2.2.2.2 ?_
  refine ld_wq A X K c (by decide) (by decide) (off_L c 1).1 ?_
  refine st_ld_k A X K c (off_LK c 1 0) ?_
  refine st_ld_v A X K c (off_LK c 1 0) ?_
  refine st_ret c ?_
  refine st_bind c ?_; rw [k0_part26_eq_skeleton]
  refine ld_wo A X K c 0 (by decide) (by decide) (off_L c 1).2.1 ?_
  refine st_ld_k A X K c (off_LK c 1 1) ?_
  refine st_ld_v A X K c (off_LK c 1 1) ?_
  refine st_ret c ?_
  refine st_bind c ?_; rw [k0_part27_eq_skeleton]
  refine ld_wo A X K c 1 (by decide) (by decide) (off_L c 1).2.2.1 ?_
  refine st_ld_k A X K c (off_LK c 1 2) ?_
  refine st_ld_v A X K c (off_LK c 1 2) ?_
  refine ld_wo A X K c 2 (by decide) (by decide) (off_L c 1).2.2.2.1 ?_
  refine st_ret c ?_
  refine st_bind c ?_; rw [k0_part28_eq_skeleton]
  refine st_ld_k A X K c (off_LK c 1 3) ?_
  refine st_ld_v A X K c (off_LK c 1 3) ?_
  refine ld_wo A X K c 3 (by decide) (by decide) (off_L c 1).2.2.2.2 ?_
  refine st_ret c ?_
  refine st_bind c ?_; rw [k0_part29_eq_skeleton]
  refine st_recv A X K c (by decide) (by decide) (by decide) rfl (by rfl) ?_
  refine st_recv A X K c (by decide) (by decide) (by decide) rfl (by rfl) ?_
  refine st_ret c ?_
  refine st_bind c ?_; rw [k0_part30_eq_skeleton]
  refine st_send_wq A X K c (n := 12) (by decide) (by decide) (by decide) rfl (off_fwdR c 2).1 (dev15 c) rfl rfl ?_
  refine st_send_wo A X K c (n := 13) (by decide) (by decide) (by decide) rfl (off_fwdR c 2).2 (dev16 c) rfl rfl ?_
  refine st_recv A X K c (by decide) (by decide) (by decide) rfl (by rfl) ?_
  refine st_recv A X K c (by decide) (by decide) (by decide) rfl (by rfl) ?_
  refine st_ret c ?_
  refine st_bind c ?_; rw [k0_part31_eq_skeleton]
  refine ld_wq A X K c (by decide) (by decide) (off_R c 2).1 ?_
  refine st_ld_k A X K c (off_RK c 2 0) ?_
  refine st_ld_v A X K c (off_RK c 2 0) ?_
  refine ld_wo A X K c 0 (by decide) (by decide) (off_R c 2).2.1 ?_
  refine st_ret c ?_
  refine st_bind c ?_; rw [k0_part32_eq_skeleton]
  refine st_ld_k A X K c (off_RK c 2 1) ?_
  refine st_ld_v A X K c (off_RK c 2 1) ?_
  refine ld_wo A X K c 1 (by decide) (by decide) (off_R c 2).2.2.1 ?_
  refine st_ret c ?_
  refine st_bind c ?_; rw [k0_part33_eq_skeleton]
  refine st_ld_k A X K c (off_RK c 2 2) ?_
  refine st_ld_v A X K c (off_RK c 2 2) ?_
  refine ld_wo A X K c 2 (by decide) (by decide) (off_R c 2).2.2.2.1 ?_
  refine st_ret c ?_
  refine st_bind c ?_; rw [k0_part34_eq_skeleton]
  refine st_ld_k A X K c (off_RK c 2 3) ?_
  refine st_ld_v A X K c (off_RK c 2 3) ?_
  refine ld_wo A X K c 3 (by decide) (by decide) (off_R c 2).2.2.2.2 ?_
  refine ld_wq A X K c (by decide) (by decide) (off_L c 2).1 ?_
  refine st_ret c ?_
  refine st_bind c ?_; rw [k0_part35_eq_skeleton]
  refine st_ld_k A X K c (off_LK c 2 0) ?_
  refine st_ld_v A X K c (off_LK c 2 0) ?_
  refine ld_wo A X K c 0 (by decide) (by decide) (off_L c 2).2.1 ?_
  refine st_ret c ?_
  refine st_bind c ?_; rw [k0_part36_eq_skeleton]
  refine st_ld_k A X K c (off_LK c 2 1) ?_
  refine st_ld_v A X K c (off_LK c 2 1) ?_
  refine ld_wo A X K c 1 (by decide) (by decide) (off_L c 2).2.2.1 ?_
  refine st_ret c ?_
  refine st_bind c ?_; rw [k0_part37_eq_skeleton]
  refine st_ld_k A X K c (off_LK c 2 2) ?_
  refine st_ld_v A X K c (off_LK c 2 2) ?_
  refine ld_wo A X K c 2 (by decide) (by decide) (off_L c 2).2.2.2.1 ?_
  refine st_ld_k A X K c (off_LK c 2 3) ?_
  refine st_ret c ?_
  refine st_bind c ?_; rw [k0_part38_eq_skeleton]
  refine st_ld_v A X K c (off_LK c 2 3) ?_
  refine ld_wo A X K c 3 (by decide) (by decide) (off_L c 2).2.2.2.2 ?_
  refine st_ret c ?_
  refine st_bind c ?_; rw [k0_part39_eq_skeleton]
  refine st_recv A X K c (by decide) (by decide) (by decide) rfl (by rfl) ?_
  refine st_recv A X K c (by decide) (by decide) (by decide) rfl (by rfl) ?_
  refine ld_wq A X K c (by decide) (by decide) (off_R c 3).1 ?_
  refine st_ld_k A X K c (off_RK c 3 0) ?_
  refine st_ld_v A X K c (off_RK c 3 0) ?_
  refine st_ret c ?_
  refine st_bind c ?_; rw [k0_part40_eq_skeleton]
  refine ld_wo A X K c 0 (by decide) (by decide) (off_R c 3).2.1 ?_
  refine st_ld_k A X K c (off_RK c 3 1) ?_
  refine st_ld_v A X K c (off_RK c 3 1) ?_
  refine st_ret c ?_
  refine st_bind c ?_; rw [k0_part41_eq_skeleton]
  refine ld_wo A X K c 1 (by decide) (by decide) (off_R c 3).2.2.1 ?_
  refine st_ld_k A X K c (off_RK c 3 2) ?_
  refine st_ld_v A X K c (off_RK c 3 2) ?_
  refine st_ret c ?_
  refine st_bind c ?_; rw [k0_part42_eq_skeleton]
  refine ld_wo A X K c 2 (by decide) (by decide) (off_R c 3).2.2.2.1 ?_
  refine st_ld_k A X K c (off_RK c 3 3) ?_
  refine st_ld_v A X K c (off_RK c 3 3) ?_
  refine st_ret c ?_
  refine st_bind c ?_; rw [k0_part43_eq_skeleton]
  refine ld_wo A X K c 3 (by decide) (by decide) (off_R c 3).2.2.2.2 ?_
  refine put_result A X K c (res := result A X c) (by rfl) zero3 ?_
  refine st_sent A _ K c (by decide) rfl (by rfl) ?_
  refine st_sent A _ K c (by decide) rfl (by rfl) ?_
  refine st_ret c ?_
  refine st_bind c ?_; rw [k0_part44_eq_skeleton]
  refine st_sent A _ K c (by decide) rfl (by rfl) ?_
  refine st_sent A _ K c (by decide) rfl (by rfl) ?_
  refine st_sent A _ K c (by decide) rfl (by rfl) ?_
  refine st_sent A _ K c (by decide) rfl (by rfl) ?_
  refine st_ret c ?_
  refine st_bind c ?_; rw [k0_part45_eq_skeleton]
  refine st_sent A _ K c (by decide) rfl (by rfl) ?_
  refine st_sent A _ K c (by decide) rfl (by rfl) ?_
  refine st_sent A _ K c (by decide) rfl (by rfl) ?_
  refine st_sent A _ K c (by decide) rfl (by rfl) ?_
  refine st_sent A _ K c (by decide) rfl (by rfl) ?_
  refine st_ret c ?_
  refine st_sent A _ K c (by decide) rfl (by rfl) ?_
  refine st_ret c ?_
  refine st_sent A _ K c (by decide) rfl (by rfl) ?_
  refine st_sent A _ K c (by decide) rfl (by rfl) ?_
  refine st_ret c ?_
  exact h

end Cert.KernelIdeal.Own
-- ==== Proof.Ideal.End.lean ====
/-
  Entering and leaving the run: the two gathering buffers as their sixteen slots, and the cells closed at the end.
-/
module

public import proofs.«01_k».proof.Proof.Ideal.Body

@[expose] public section

noncomputable section

namespace Cert.KernelIdeal.Own

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig Unit (Elt F) ℕ UU ℕ

variable (A : Weights F) (X : Inputs F) (K : GSem nD τ sig → ℕ) (c : Dev nD)

/-! ## What a device enters with, and the states of its first steps -/

variable (A : Weights F) (X : Inputs F) (K : GSem nD τ sig → ℕ) (c : Dev nD)

/-! ## Conjunctions over ranges of numbers -/

theorem bigSep_fin_Ico (n : ℕ) (Φ : ℕ → sProp 𝕄) : bigSep Finset.univ (fun i : Fin n => Φ i.val) = bigSep (Finset.Ico 0 n) Φ := by
  rw [show Finset.Ico 0 n = Finset.univ.map (Fin.valEmbedding : Fin n ↪ ℕ) from by
    ext i
    simp only [Finset.mem_Ico, Finset.mem_map, Finset.mem_univ, true_and, Nat.zero_le]
    exact ⟨fun h => ⟨⟨i, h⟩, rfl⟩, fun ⟨j, hj⟩ => hj ▸ j.isLt⟩, bigSep_map]
  rfl

theorem bigSep_shift (a n : ℕ) (Φ : ℕ → sProp 𝕄) : bigSep (Finset.Ico a (a + n)) Φ = bigSep (Finset.Ico 0 n) (fun i => Φ (a + i)) := by
  rw [show Finset.Ico a (a + n) = (Finset.Ico 0 n).map (addLeftEmbedding a) from by
    ext i
    simp only [Finset.mem_Ico, Finset.mem_map, addLeftEmbedding_apply]
    exact ⟨fun h => ⟨i - a, by omega, by omega⟩, fun ⟨j, hj, e⟩ => by omega⟩, bigSep_map]
  rfl

theorem bigSep_cut {a b c : ℕ} (hab : a ≤ b) (hbc : b ≤ c) (Φ : ℕ → sProp 𝕄) :
    bigSep (Finset.Ico a c) Φ = iprop(bigSep (Finset.Ico a b) Φ ∗ bigSep (Finset.Ico b c) Φ) := by
  rw [← Finset.Ico_union_Ico_eq_Ico hab hbc]
  exact bigSep_union (Finset.Ico_disjoint_Ico_consecutive a b c)

theorem pairs (S : Finset ℕ) (Φ Ψ : ℕ → sProp 𝕄) : iprop(bigSep S Φ ∗ bigSep S Ψ) ⊢ bigSep S fun p => iprop(Φ p ∗ Ψ p) :=
  Entails.of_eq (bigSep_sep' ..).symm

theorem bigSep_twos (n : ℕ) (Φ : ℕ → sProp 𝕄) :
    bigSep (Finset.Ico 0 (2 * n)) Φ = bigSep (Finset.Ico 0 n) (fun j => iprop(Φ (2 * j) ∗ Φ (2 * j + 1))) := by
  induction n with
  | zero => rw [Nat.mul_zero, Finset.Ico_self, bigSep_empty, bigSep_empty]
  | succ n ih =>
    rw [show 2 * (n + 1) = 2 * n + 1 + 1 from by omega, bigSep_Ico_succ_top (Nat.zero_le _), bigSep_Ico_succ_top (Nat.zero_le _),
      bigSep_Ico_succ_top (Nat.zero_le _), ih]
    refine BI.equiv_iff.mp ⟨?_, ?_⟩
    · show (_ : sProp 𝕄) ⊢ _
      iintro ⟨H1, H0, H⟩; isplitl [H0 H1]
      · isplitl [H0] <;> iassumption
      · iexact H
    · show (_ : sProp 𝕄) ⊢ _
      iintro ⟨⟨H0, H1⟩, H⟩; isplitl [H1]
      · iexact H1
      · isplitl [H0] <;> iassumption

/-! ## The buffers as slots -/

theorem hole_mod {p p' : ℕ} (h : p % 2 = p' % 2) (k : Dev nD) : (hole p c k : sProp 𝕄) = hole p' c k := by
  unfold hole; rw [h]

/-- Every slot of device c, whole at contents not chosen: its own two, and the one each position's copy lands in. -/
def holes : sProp 𝕄 :=
  iprop((hole 0 c (schunk c 1) ∗ hole 1 c (schunk c 1)) ∗ bigSep (Finset.Ico 0 14) fun p => hole p c (schunk c (p / 2 + 2)))

theorem holes_eq : (holes c : sProp 𝕄) = bigSep Finset.univ fun k : Dev nD => iprop(hole 0 c k ∗ hole 1 c k) := by
  have h1 : (bigSep (Finset.Ico 0 14) fun p => (hole p c (schunk c (p / 2 + 2)) : sProp 𝕄))
      = bigSep (Finset.Ico 0 7) fun j => iprop(hole 0 c (schunk c (1 + j + 1)) ∗ hole 1 c (schunk c (1 + j + 1))) := by
    rw [show (14 : ℕ) = 2 * 7 from rfl, bigSep_twos]
    refine bigSep_congr fun j _ => ?_
    rw [hole_mod c (p := 2 * j) (p' := 0) (by omega), hole_mod c (p := 2 * j + 1) (p' := 1) (by omega),
      show 2 * j / 2 + 2 = 1 + j + 1 from by omega, show (2 * j + 1) / 2 + 2 = 1 + j + 1 from by omega]
  rw [bigSep_univ_equiv (Equiv.ofBijective _ (schunk_bij c)),
    show (bigSep Finset.univ fun j : Fin 8 => iprop(hole 0 c (Equiv.ofBijective _ (schunk_bij c) j) ∗ hole 1 c (Equiv.ofBijective _ (schunk_bij c) j)) : sProp 𝕄)
      = bigSep Finset.univ fun j : Fin 8 => (fun i : ℕ => (iprop(hole 0 c (schunk c (i + 1)) ∗ hole 1 c (schunk c (i + 1))) : sProp 𝕄)) j.val from rfl,
    bigSep_fin_Ico 8 (fun i : ℕ => (iprop(hole 0 c (schunk c (i + 1)) ∗ hole 1 c (schunk c (i + 1))) : sProp 𝕄)),
    bigSep_Ico_succ_bot (by decide), show Finset.Ico (0 + 1) 8 = Finset.Ico 1 (1 + 7) from rfl, bigSep_shift]
  unfold holes
  rw [h1]

/-- The two gathering buffers, each whole at contents not chosen. -/
def gathering : sProp 𝕄 :=
  iprop((∃ f : Vec F S8x512x256 .bf16, ((c : Thread nD τ).loc cc0_scratch0) ↦{fullShare} f)
    ∗ (∃ f : Vec F S8x256x512 .bf16, ((c : Thread nD τ).loc cc0_scratch1) ↦{fullShare} f))

theorem wq_disj : ∀ k ∈ (Finset.univ : Finset (Dev nD)), ∀ k' ∈ (Finset.univ : Finset (Dev nD)), k ≠ k' → Disjoint (wqRect k).set (wqRect k').set :=
  fun k _ k' _ h => Finset.disjoint_left.mpr fun i h1 h2 => h (Fin.ext ((mem_wq.mp h1).symm.trans (mem_wq.mp h2)))
theorem wo_disj : ∀ k ∈ (Finset.univ : Finset (Dev nD)), ∀ k' ∈ (Finset.univ : Finset (Dev nD)), k ≠ k' → Disjoint (woRect k).set (woRect k').set :=
  fun k _ k' _ h => Finset.disjoint_left.mpr fun i h1 h2 => h (Fin.ext ((mem_wo.mp h1).symm.trans (mem_wo.mp h2)))
theorem wq_cover : (Finset.univ : Finset (Dev nD)).biUnion (fun k => (wqRect k).set) = Finset.univ := by
  ext i; simp only [Finset.mem_biUnion, Finset.mem_univ, true_and, iff_true]
  exact ⟨i 0, mem_wq.mpr rfl⟩
theorem wo_cover : (Finset.univ : Finset (Dev nD)).biUnion (fun k => (woRect k).set) = Finset.univ := by
  ext i; simp only [Finset.mem_biUnion, Finset.mem_univ, true_and, iff_true]
  exact ⟨i 0, mem_wo.mpr rfl⟩

theorem gathering_holes : (gathering c : sProp 𝕄) ⊢ holes c := by
  rw [holes_eq, bigSep_sep']
  unfold gathering hole
  simp only [Nat.zero_mod, if_true, if_neg (show ¬ 1 % 2 = 0 by decide)]
  iintro ⟨⟨%f, Hf⟩, ⟨%g, Hg⟩⟩
  isplitl [Hf]
  · iapply (show (((c : Thread nD τ).loc cc0_scratch0) ↦{fullShare} f : sProp 𝕄) ⊢ bigSep Finset.univ fun k : Dev nD => iprop(∃ f : Vec F S8x512x256 .bf16, wqAt c k fullShare f) from by
      rw [← wq_cover, pointsTo_biUnion _ _ wq_disj]
      exact bigSep_mono fun k _ => by show (_ : sProp 𝕄) ⊢ _; iintro H; iexists f; iexact H)
    iexact Hf
  · iapply (show (((c : Thread nD τ).loc cc0_scratch1) ↦{fullShare} g : sProp 𝕄) ⊢ bigSep Finset.univ fun k : Dev nD => iprop(∃ f : Vec F S8x256x512 .bf16, woAt c k fullShare f) from by
      rw [← wo_cover, pointsTo_biUnion _ _ wo_disj]
      exact bigSep_mono fun k _ => by show (_ : sProp 𝕄) ⊢ _; iintro H; iexists g; iexact H)
    iexact Hg

theorem holes_gathering : (holes c : sProp 𝕄) ⊢ gathering c := by
  rw [holes_eq, bigSep_sep']
  unfold gathering hole
  simp only [Nat.zero_mod, if_true, if_neg (show ¬ 1 % 2 = 0 by decide)]
  haveI : Nonempty (Vec F S8x512x256 .bf16) := ⟨fun _ => FloatOps.ofBits .bf16 0⟩
  haveI : Nonempty (Vec F S8x256x512 .bf16) := ⟨fun _ => FloatOps.ofBits .bf16 0⟩
  iintro ⟨Hf, Hg⟩
  ihave Hf := (bigSep_exists_pi (Finset.univ : Finset (Dev nD)) (fun k (f : Vec F S8x512x256 .bf16) => wqAt c k fullShare f)) $$ Hf
  ihave Hg := (bigSep_exists_pi (Finset.univ : Finset (Dev nD)) (fun k (f : Vec F S8x256x512 .bf16) => woAt c k fullShare f)) $$ Hg
  icases Hf with ⟨%f, Hf⟩
  icases Hg with ⟨%g, Hg⟩
  isplitl [Hf]
  · ihave H := (pointsTo_biUnion_join (ℓ := (c : Thread nD τ).loc cc0_scratch0) (q := fullShare) (Finset.univ : Finset (Dev nD)) (fun k => (wqRect k).set) f (f 0) wq_disj) $$ Hf
    icases H with ⟨%f', -, H⟩
    iexists f'
    rw [← wq_cover]; iexact H
  · ihave H := (pointsTo_biUnion_join (ℓ := (c : Thread nD τ).loc cc0_scratch1) (q := fullShare) (Finset.univ : Finset (Dev nD)) (fun k => (woRect k).set) g (g 0) wo_disj) $$ Hg
    icases H with ⟨%g', -, H⟩
    iexists g'
    rw [← wo_cover]; iexact H

/-! ## Entering -/

/-- The duties c has at its neighbours' barriers, those open. -/
def gate : sProp 𝕄 :=
  iprop((dutyTok ER (barCell (left c)) 0 true ∗ reached ER (barCell (left c)) 0) ∗ (dutyTok ER (barCell (right c)) 0 false ∗ reached ER (barCell (right c)) 0))

/-- What c brings for position p while its two cells of p are still closed, and what that is once they are open. -/
def sealed (p : ℕ) : sProp 𝕄 :=
  iprop((dutyTok ER (recvCell (tgt c p) p) 0 true ∗ dutyTok ER (sendCell c p) 0 true) ∗ (openTok ER (sendCell c p) ∗ openTok ER (recvCell c p))
    ∗ cred (tallyAt (recvCell c p) () N))
def unsealed (p : ℕ) : sProp 𝕄 := iprop(ticket c p ∗ toRecv c p ∗ reached ER (recvCell c p) 0)

/-- What c brings to the kernel, and what the body starts with. -/
def brought : sProp 𝕄 := iprop(∃ K, invs A K ∗ bigSep (Finset.Ico 0 14) (sealed c) ∗ gate c ∗ barWait c)
def opened : sProp 𝕄 := iprop(∃ K, (invs A K ∗ levAts L lv) ∗ bigSep (Finset.Ico 0 14) (unsealed c) ∗ gate c ∗ barWait c)

theorem ownSems_eq : (Pipeline.ownSems0 osem c : sProp 𝕄)
    = bigSep (Finset.Ico 0 14) fun p => iprop(semVal (sendCell c p) 0 ∗ semVal (recvCell c p) 0) := by
  have e : (Pipeline.ownSems0 osem c : sProp 𝕄)
      = bigSep Finset.univ fun k : Fin 28 => (fun i : ℕ => (semVal ((c : Thread nD τ), if i < 14 then .dma (sS i) else .dma (rS (i - 14))) 0 : sProp 𝕄)) k.val := rfl
  rw [e, bigSep_fin_Ico 28 (fun i : ℕ => (semVal ((c : Thread nD τ), if i < 14 then .dma (sS i) else .dma (rS (i - 14))) 0 : sProp 𝕄)),
    bigSep_cut (b := 14) (by decide) (by decide), show Finset.Ico 14 28 = Finset.Ico 14 (14 + 14) from rfl, bigSep_shift, bigSep_sep']
  refine congrArg₂ (fun P Q : sProp 𝕄 => iprop(P ∗ Q)) (bigSep_congr fun p hp => ?_) (bigSep_congr fun p hp => ?_)
  · rw [if_pos (Finset.mem_Ico.mp hp).2]
  · rw [if_neg (by omega), show 14 + p - 14 = p from by omega]

theorem open_pos {p : ℕ} (hp : p < 14) :
    iprop(invs A K ∗ sealed c p ∗ (semVal (sendCell c p) 0 ∗ semVal (recvCell c p) 0)) ⊢ (|={Set.univ}=> unsealed c p : sProp 𝕄) := by
  unfold sealed unsealed ticket toRecv
  iintro ⟨#Hinv, ⟨⟨HtR, HtS⟩, ⟨HoS, HoR⟩, Hcr⟩, HvS, HvR⟩
  imod (Rounds.cell_open ER (ringRd A) (g := sendCell c p) (Set.mem_univ (K (sendCell c p)))) $$ [HoS HvS] with ⟨HatS, #HrS⟩
  · isplitr; · iapply (inv_at A K (send_mem c hp)); iexact Hinv
    isplitl [HoS] <;> iassumption
  imod (Rounds.cell_open ER (ringRd A) (g := recvCell c p) (Set.mem_univ (K (recvCell c p)))) $$ [HoR HvR] with ⟨HatR, #HrR⟩
  · isplitr; · iapply (inv_at A K (recv_mem c hp)); iexact Hinv
    isplitl [HoR] <;> iassumption
  imodintro
  isplitl [HtR HtS HatS]
  · isplitl [HtR]; · iexact HtR
    isplitl [HtS]; · iexact HtS
    isplitr; · iexact HrS
    iexact HatS
  isplitl [Hcr HatR]
  · isplitl [Hcr] <;> iassumption
  iexact HrR

/-- The device's own cells opened, from their counters at zero. -/
theorem enter : iprop(brought A c ∗ Pipeline.ownSems0 osem c ∗ levAts L lv) ⊢ (|={Set.univ}=> opened A c : sProp 𝕄) := by
  unfold brought opened
  rw [ownSems_eq]
  iintro ⟨⟨%K, #Hinv, Hs, Hgate, Hbar⟩, Hv, #Hlev⟩
  imod (show iprop(invs A K ∗ bigSep (Finset.Ico 0 14) fun p => iprop(sealed c p ∗ (semVal (sendCell c p) 0 ∗ semVal (recvCell c p) 0)))
      ⊢ (|={Set.univ}=> bigSep (Finset.Ico 0 14) (unsealed c) : sProp 𝕄) from
    (bigSep_with_persistent fun p hp => open_pos A K c (Finset.mem_Ico.mp hp).2).trans (bigSep_fupd _ _)) $$ [Hs Hv] with Hu
  · isplitr; · iexact Hinv
    iapply (pairs _ _ _)
    isplitl [Hs] <;> iassumption
  imodintro
  iexists K
  isplitr
  · isplitr; · iexact Hinv
    iexact Hlev
  isplitl [Hu]; · iexact Hu
  isplitl [Hgate] <;> iassumption

/-- The fourteen slots others write, with the receive cells open, by the direction they are written from. -/
theorem slots : iprop((bigSep (Finset.Ico 0 14) fun p => hole p c (schunk c (p / 2 + 2))) ∗ bigSep (Finset.Ico 0 14) fun p => reached ER (recvCell c p) 0)
    ⊢ (iprop(bigSep (dirPos true) (slot c) ∗ bigSep (dirPos false) (slot c)) : sProp 𝕄) := by
  have e : (iprop(bigSep (dirPos true) (slot c) ∗ bigSep (dirPos false) (slot c)) : sProp 𝕄) = bigSep (Finset.Ico 0 14) (slot c) := by
    rw [show Finset.Ico 0 14 = dirPos true ∪ dirPos false from by decide]
    exact (bigSep_union (by decide)).symm
  rw [e]
  exact Entails.of_eq (bigSep_sep' ..).symm

theorem begin_intro : iprop(inputs A X c ∗ gathering c ∗ ((invs A K ∗ levAts L lv) ∗ bigSep (Finset.Ico 0 14) (unsealed c) ∗ gate c ∗ barWait c)
      ∗ ∃ W, owes (c : Thread nD τ) (debt₀ c) W) ⊢ (S₀ A X K c : sProp 𝕄) := by
  unfold S₀ common gate giveL giveR unsealed
  rw [bigSep_sep', bigSep_sep']
  iintro ⟨Hin, Hg, ⟨⟨#Hinv, #Hlev⟩, ⟨Ht, Hv, Hr⟩, ⟨⟨HtL, HrL⟩, HtR, HrR⟩, Hbar⟩, HO⟩
  ihave Hh := (gathering_holes c) $$ Hg
  unfold holes
  icases Hh with ⟨⟨H0, H1⟩, Hh⟩
  ihave Hs := (slots c) $$ [Hh Hr]
  · isplitl [Hh] <;> iassumption
  icases Hs with ⟨HsL, HsR⟩
  isplitl [Hin]; · iexact Hin
  isplitl [Ht Hv H0 H1]
  · isplitr; · iexact Hinv
    isplitr; · iexact Hlev
    isplitl [Ht]; · iexact Ht
    isplitl [Hv]; · iexact Hv
    isplitl [H0] <;> iassumption
  isplitl [HO]; · iexact HO
  isplitl [HtL HrL HsL]
  · isplitl [HtL]; · iexact HtL
    isplitl [HrL] <;> iassumption
  isplitl [HtR HrR HsR]
  · isplitl [HtR]; · iexact HtR
    isplitl [HrR] <;> iassumption
  iexact Hbar

/-! ## Leaving -/

/-- The half kept for loads and what a chunk received was lent as, together again. -/
theorem rejoin (p : ℕ) : iprop(lend A c (4 + p) ∗ avail A c (2 + p)) ⊢ (hole p c (schunk c (p / 2 + 2)) : sProp 𝕄) := by
  unfold lend avail lshare
  rw [if_neg (by omega), if_neg (by omega), show (4 + p) / 2 = p / 2 + 2 from by omega, show (2 + p) / 2 + 1 = p / 2 + 2 from by omega,
    piece_mod A c (p := 4 + p) (p' := p) (by omega), piece_mod A c (p := 2 + p) (p' := p) (by omega)]
  refine (show iprop(piece A p c (schunk c (p / 2 + 2)) fullShare.right ∗ piece A p c (schunk c (p / 2 + 2)) fullShare.left) ⊢ (hole p c (schunk c (p / 2 + 2)) : sProp 𝕄) from ?_)
  iintro ⟨Hr, Hl⟩
  iapply (piece_hole A p c _)
  iapply (piece_share A p c _ fullShare).2
  isplitl [Hl] <;> iassumption

theorem rejoin_own (p : ℕ) : iprop(piece A p c (schunk c 1) fullShare.left ∗ piece A p c (schunk c 1) fullShare.right.left ∗ piece A p c (schunk c 1) fullShare.right.right)
    ⊢ (hole p c (schunk c 1) : sProp 𝕄) := by
  iintro ⟨Hl, Hrl, Hrr⟩
  iapply (piece_hole A p c _)
  iapply (piece_share A p c _ fullShare).2
  isplitl [Hl]; · iexact Hl
  iapply (piece_share A p c _ fullShare.right).2
  isplitl [Hrl] <;> iassumption

theorem back : iprop((bigSep (Finset.Ico 14 18) (lend A c) ∗ bigSep (Finset.Ico 0 14) (lend A c)) ∗ bigSep (Finset.Ico 0 16) (avail A c)) ⊢ (gathering c : sProp 𝕄) := by
  have e1 : (bigSep (Finset.Ico 0 18) (lend A c) : sProp 𝕄)
      = iprop(bigSep (Finset.Ico 0 (0 + 4)) (lend A c) ∗ bigSep (Finset.Ico 0 14) fun p => lend A c (4 + p)) := by
    rw [bigSep_cut (b := 4) (by decide) (by decide), show Finset.Ico 4 18 = Finset.Ico 4 (4 + 14) from rfl, bigSep_shift]
  have e2 : (bigSep (Finset.Ico 0 16) (avail A c) : sProp 𝕄)
      = iprop(bigSep (Finset.Ico 0 (0 + 2)) (avail A c) ∗ bigSep (Finset.Ico 0 14) fun p => avail A c (2 + p)) := by
    rw [bigSep_cut (b := 2) (by decide) (by decide), show Finset.Ico 2 16 = Finset.Ico 2 (2 + 14) from rfl, bigSep_shift]
  iintro ⟨⟨Hl1, Hl0⟩, Ha⟩
  ihave Hl := (Entails.of_eq (bigSep_cut (a := 0) (b := 14) (c := 18) (by decide) (by decide) (lend A c)).symm) $$ [Hl0 Hl1]
  · isplitl [Hl0] <;> iassumption
  ihave Hl := (Entails.of_eq e1) $$ Hl
  ihave Ha := (Entails.of_eq e2) $$ Ha
  rw [own_lend, own_avail]
  icases Hl with ⟨⟨Hl0, Hl1, Hl2, Hl3⟩, Hl⟩
  icases Ha with ⟨⟨Ha0, Ha1⟩, Ha⟩
  iapply (holes_gathering c)
  unfold holes
  isplitr [Hl Ha]
  · isplitl [Hl0 Hl2 Ha0]
    · iapply (rejoin_own A c 0)
      isplitl [Ha0]; · iexact Ha0
      isplitl [Hl0] <;> iassumption
    · iapply (rejoin_own A c 1)
      isplitl [Ha1]; · iexact Ha1
      isplitl [Hl1] <;> iassumption
  · iapply (show (bigSep (Finset.Ico 0 14) fun p => iprop(lend A c (4 + p) ∗ avail A c (2 + p))) ⊢ (bigSep (Finset.Ico 0 14) fun p => hole p c (schunk c (p / 2 + 2)) : sProp 𝕄) from
      bigSep_mono fun p _ => rejoin A c p)
    iapply (pairs _ _ _)
    isplitl [Hl] <;> iassumption

/-- Position p's two cells closed, their counters at zero again. -/
theorem close_pos {p : ℕ} (hp : p < 14) : iprop(invs A K ∗ sent c p ∗ recvd c p) ⊢ (|={Set.univ}=> iprop(semVal (sendCell c p) 0 ∗ semVal (recvCell c p) 0) : sProp 𝕄) := by
  unfold sent recvd
  iintro ⟨#Hinv, Hs, Hr⟩
  imod (Rounds.cell_close ER (ringRd A) (g := sendCell c p) (Set.mem_univ (K (sendCell c p))) id (duties_later A _)) $$ [Hs] with HvS
  · isplitr; · iapply (inv_at A K (send_mem c hp)); iexact Hinv
    iexact Hs
  imod (Rounds.cell_close ER (ringRd A) (g := recvCell c p) (Set.mem_univ (K (recvCell c p))) id (duties_later A _)) $$ [Hr] with HvR
  · isplitr; · iapply (inv_at A K (recv_mem c hp)); iexact Hinv
    iexact Hr
  imodintro
  isplitl [HvS] <;> iassumption

/-- What a device has after the body. -/
def done : sProp 𝕄 :=
  iprop(inputs A X c ∗ gathering c ∗ Pipeline.ownSems0 osem c ∗ semVal (barCell c) 0 ∗ ∃ W, owes (c : Thread nD τ) (0 : CellTallies nD τ sig Unit) W)

theorem leave : (St A X K c 14 14 14 : sProp 𝕄) ⊢ |={Set.univ}=> done A X c := by
  unfold St staged done
  rw [debt_end, ownSems_eq]
  iintro ⟨#Hinv, -, HO, -, -, -, Hl1, Ha, Hl0, Hrd, Hsd, Hin, Hbar⟩
  imod (show iprop(invs A K ∗ bigSep (Finset.Ico 0 14) fun p => iprop(sent c p ∗ recvd c p))
      ⊢ (|={Set.univ}=> bigSep (Finset.Ico 0 14) fun p => iprop(semVal (sendCell c p) 0 ∗ semVal (recvCell c p) 0) : sProp 𝕄) from
    (bigSep_with_persistent fun p hp => close_pos A K c (Finset.mem_Ico.mp hp).2).trans (bigSep_fupd _ _)) $$ [Hsd Hrd] with Hv
  · isplitr; · iexact Hinv
    iapply (pairs _ _ _)
    isplitl [Hsd] <;> iassumption
  imod (Rounds.cell_close ER (ringRd A) (g := barCell c) (Set.mem_univ (K (barCell c))) id (duties_later A _)) $$ [Hbar] with Hb
  · isplitr; · iapply (inv_at A K (bar_mem c)); iexact Hinv
    iexact Hbar
  imodintro
  isplitl [Hin]; · iexact Hin
  isplitl [Hl0 Hl1 Ha]
  · iapply (back A c)
    isplitl [Hl0 Hl1]
    · isplitl [Hl1] <;> iassumption
    iexact Ha
  isplitl [Hv]; · iexact Hv
  isplitl [Hb] <;> iassumption

theorem wp_upd {α : Type} (P : Prog (TpuEff nD τ sig (Elt F) Λ₀ .tc) α) (Q : α → sProp 𝕄) : Wp c P (fun a => iprop(|={Set.univ}=> Q a)) ⊢ Wp c P Q :=
  wp_fupd _ _ _ P Q

/-- The whole body: from what the device enters with to what it leaves, the staged result at the gathered attention. -/
theorem run : iprop(inputs A X c ∗ gathering c ∗ opened A c ∗ ∃ W, owes (c : Thread nD τ) (debt₀ c) W)
    ⊢ Wp c (body F) (fun _ => done A { X with r := (· = result A X c) } c) := by
  unfold opened
  iintro ⟨Hin, Hg, ⟨%K, Ho⟩, HO⟩
  iapply (show (S₀ A X K c : sProp 𝕄) ⊢ Wp c (body F) (fun _ => done A { X with r := (· = result A X c) } c) from
    (run_body A X K c (Q := fun _ => iprop(|={Set.univ}=> done A { X with r := (· = result A X c) } c)) (leave A _ K c)).trans (wp_upd c (body F) fun _ => done A { X with r := (· = result A X c) } c))
  iapply (begin_intro A X K c)
  isplitl [Hin]; · iexact Hin
  isplitl [Hg]; · iexact Hg
  isplitl [Ho]; · iexact Ho
  iexact HO

end Cert.KernelIdeal.Own
-- ==== Proof.Ideal.Region.lean ====
/-
  The custom call as a region of @main: what it is entered with and left at.
-/
module

public import proofs.«01_k».proof.Proof.Ideal.End
public import Idealize.ShloMosaic.Lib.Pipeline.ValueKit.Geometry
public import proofs.«01_k».proof.Proof.Gen.KernelIdeal.Launch
public import proofs.«01_k».proof.Proof.Gen.KernelIdeal.Points
public import proofs.«01_k».proof.Proof.Gen.KernelIdeal.Regions

@[expose] public section

noncomputable section

namespace Cert.KernelIdeal.Own

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig Unit (Elt F) ℕ UU ℕ

variable (m : (ℓ : Loc nD τ sig) → Buf (Elt F) ℓ) (c : Dev nD)

/-! ## The arrays -/

/-- The weights of every device, and the rest of a device's inputs, as the launch memory has them. -/
def shards : Weights F where
  wq c := V1 m c main_arg1
  wo c := V1 m c main_arg4
def feed : Inputs F where
  x := V1 m c main_arg0
  k := V1 m c main_v15
  v := V1 m c main_v16
  r _ := True

/-- What the kernel leaves in its result on device c. -/
def finish : Vec F S2x256x512 .f32 := result (shards m) (feed m c) c

/-- The buffers after the kernel. -/
def outs : Outs (F := F) := fun _ r c => if h : r = main_v17 then h ▸ finish m c else m ((c : Thread nD τ).loc r)

theorem outs_main_v17 : outs m 2 main_v17 c = finish m c := dif_pos rfl

/-- The kernel's proof data: what it is entered with at its one point, what it leaves after. -/
def dat0 : Dat τ (Elt F) Unit ℕ UU ℕ cfg0 c where
  A w := V1 m c (Proc.devRef .tc (Pipeline.arrRef cfg0.spec w))
  after w _ := match w with
    | ⟨0, _⟩ => (feed m c).x
    | ⟨1, _⟩ => (shards m).wq c
    | ⟨2, _⟩ => (feed m c).k
    | ⟨3, _⟩ => (feed m c).v
    | ⟨4, _⟩ => (shards m).wo c
    | ⟨5, _⟩ => finish m c
  Φ t := if t.val = 0 then iprop(opened (shards m) c ∗ gathering c ∗ ∃ r, prngReg c r)
    else iprop(gathering c ∗ (∃ r, prngReg c r) ∗ Pipeline.ownSems0 osem c ∗ semVal (barCell c) 0)
  q _ := fullShare
  owed t := if t.val = 0 then debt₀ c else 0

def pdats : (p : Fin 1) → (c : Dev nD) → Dat τ (Elt F) Unit ℕ UU ℕ (cfgs p) c
  | 0 => dat0 m

/-! ## Each window is its whole array -/

theorem before_0 (d : (cfg0.win (0 : Fin 6)).block.Idx → Elt F (cfg0.win (0 : Fin 6)).elt) : (dat0 m c).before (0 : Fin 6) t0_0 d = (feed m c).x := by
  unfold Dat.before; rw [if_pos (fetch0_0 t0_0)]
  funext j
  refine congrArg (V1 m c (Proc.devRef .tc (Pipeline.arrRef cfg0.spec 0))) (funext fun a => Fin.ext ?_)
  exact Pipeline.Window.rect_emb_val_of_index_zero win0_0 t0_0 a rfl j

theorem before_1 (d : (cfg0.win (1 : Fin 6)).block.Idx → Elt F (cfg0.win (1 : Fin 6)).elt) : (dat0 m c).before (1 : Fin 6) t0_0 d = (shards m).wq c := by
  unfold Dat.before; rw [if_pos (fetch0_1 t0_0)]
  funext j
  refine congrArg (V1 m c (Proc.devRef .tc (Pipeline.arrRef cfg0.spec 1))) (funext fun a => Fin.ext ?_)
  exact Pipeline.Window.rect_emb_val_of_index_zero win0_1 t0_0 a rfl j

theorem before_2 (d : (cfg0.win (2 : Fin 6)).block.Idx → Elt F (cfg0.win (2 : Fin 6)).elt) : (dat0 m c).before (2 : Fin 6) t0_0 d = (feed m c).k := by
  unfold Dat.before; rw [if_pos (fetch0_2 t0_0)]
  funext j
  refine congrArg (V1 m c (Proc.devRef .tc (Pipeline.arrRef cfg0.spec 2))) (funext fun a => Fin.ext ?_)
  exact Pipeline.Window.rect_emb_val_of_index_zero win0_2 t0_0 a rfl j

theorem before_3 (d : (cfg0.win (3 : Fin 6)).block.Idx → Elt F (cfg0.win (3 : Fin 6)).elt) : (dat0 m c).before (3 : Fin 6) t0_0 d = (feed m c).v := by
  unfold Dat.before; rw [if_pos (fetch0_3 t0_0)]
  funext j
  refine congrArg (V1 m c (Proc.devRef .tc (Pipeline.arrRef cfg0.spec 3))) (funext fun a => Fin.ext ?_)
  exact Pipeline.Window.rect_emb_val_of_index_zero win0_3 t0_0 a rfl j

theorem before_4 (d : (cfg0.win (4 : Fin 6)).block.Idx → Elt F (cfg0.win (4 : Fin 6)).elt) : (dat0 m c).before (4 : Fin 6) t0_0 d = (shards m).wo c := by
  unfold Dat.before; rw [if_pos (fetch0_4 t0_0)]
  funext j
  refine congrArg (V1 m c (Proc.devRef .tc (Pipeline.arrRef cfg0.spec 4))) (funext fun a => Fin.ext ?_)
  exact Pipeline.Window.rect_emb_val_of_index_zero win0_4 t0_0 a rfl j

theorem after_5 : (dat0 m c).arrAt (5 : Fin 6) cfg0.N = finish m c := by
  refine (dat0 m c).arrAt_eq_of_after_last (5 : Fin 6) t0_0 (by decide +kernel) _ fun j => ?_
  rfl

/-! ## The body at its one point -/

theorem owed_at (t : Fin (cfg0.N + 1)) : (dat0 m c).owed t = if t.val = 0 then debt₀ c else 0 := rfl
theorem owed_zero : (dat0 m c).owed 0 = debt₀ c := by rw [owed_at]; exact if_pos rfl
theorem owed_first : (dat0 m c).owed t0_0.castSucc = debt₀ c := by rw [owed_at]; exact if_pos rfl
theorem owed_last : (dat0 m c).owed (Fin.last _) = 0 := by rw [owed_at, if_neg (by rw [Fin.val_last, show cfg0.N = 1 from N_0]; decide)]
theorem owed_succ : (dat0 m c).owed t0_0.succ = 0 := by rw [owed_at, if_neg (by rw [Fin.val_succ]; exact Nat.succ_ne_zero _)]

theorem owes_at (t : Fin (cfg0.N + 1)) (O : CellTallies nD τ sig Unit) (h : (dat0 m c).owed t = O) :
    ((dat0 m c).owesAt () t : sProp 𝕄) ⊣⊢ iprop(∃ W, owes (c : Thread nD τ) O W) := by
  unfold Dat.owesAt Pipeline.owesWithin Dat.bound
  rw [h]
  refine ⟨?_, ?_⟩
  · iintro ⟨%W, -, HO⟩; iexists W; iexact HO
  · iintro ⟨%W, HO⟩; iexists W
    isplitr
    · ipureintro; exact fun _ _ => Or.inl trivial
    iexact HO

/-- A whole staged buffer. -/
abbrev stgAt (b : Ref sig .tc) (f : b.ty.Contents (Elt F)) : sProp 𝕄 :=
  iprop(∃ g : Buf (Elt F) ((c : Thread nD τ).loc b), ⌜g = f⌝ ∗ (((c : Thread nD τ).loc b) ↦{fullShare} g))

theorem owns_whole (b : Ref sig .tc) (f : b.ty.Contents (Elt F)) :
    (owns (Ix := Unit) (Name := ℕ) (U := UU) (Lvl := ℕ) (c : Thread nD τ) (Memref.whole b) fullShare f : sProp 𝕄) = stgAt c b f := by
  unfold owns; simp only [Memref.view_whole, View.read_whole, View.set_whole]

def pre0 : sProp 𝕄 :=
  iprop((opened (shards m) c ∗ gathering c ∗ ∃ r, prngReg c r) ∗ (dat0 m c).owesAt () t0_0.castSucc
    ∗ (∃ d, stgAt c cc0_stg0_0 ((dat0 m c).before (0 : Fin 6) t0_0 d)) ∗ (∃ d, stgAt c cc0_stg1_0 ((dat0 m c).before (1 : Fin 6) t0_0 d))
    ∗ (∃ d, stgAt c cc0_stg2_0 ((dat0 m c).before (2 : Fin 6) t0_0 d)) ∗ (∃ d, stgAt c cc0_stg3_0 ((dat0 m c).before (3 : Fin 6) t0_0 d))
    ∗ (∃ d, stgAt c cc0_stg4_0 ((dat0 m c).before (4 : Fin 6) t0_0 d)) ∗ (∃ d, stgAt c cc0_stg5_0 ((dat0 m c).before (5 : Fin 6) t0_0 d)))
def post0 : sProp 𝕄 :=
  iprop((gathering c ∗ (∃ r, prngReg c r) ∗ Pipeline.ownSems0 osem c ∗ semVal (barCell c) 0) ∗ (dat0 m c).owesAt () t0_0.succ
    ∗ stgAt c cc0_stg0_0 (feed m c).x ∗ stgAt c cc0_stg1_0 ((shards m).wq c) ∗ stgAt c cc0_stg2_0 (feed m c).k ∗ stgAt c cc0_stg3_0 (feed m c).v
    ∗ stgAt c cc0_stg4_0 ((shards m).wo c) ∗ stgAt c cc0_stg5_0 (finish m c))

/-- What the body leaves, as the point's windows. -/
theorem body_out : iprop(done (shards m) { feed m c with r := (· = result (shards m) (feed m c) c) } c ∗ ∃ r, prngReg c r) ⊢ (post0 m c : sProp 𝕄) := by
  unfold done inputs post0
  iintro ⟨⟨⟨H0, H1, H2, H3, H4, ⟨%f, %hf, H5⟩⟩, Hg, Hos, Hb, HO⟩, Hp⟩
  isplitl [Hg Hp Hos Hb]
  · isplitl [Hg]; · iexact Hg
    isplitl [Hp]; · iexact Hp
    isplitl [Hos]; · iexact Hos
    iexact Hb
  isplitl [HO]; · iapply (owes_at m c _ _ (owed_succ m c)).2; iexact HO
  isplitl [H0]; · iexists (feed m c).x; isplitr; · ipureintro; rfl
                  iexact H0
  isplitl [H1]; · iexists (shards m).wq c; isplitr; · ipureintro; rfl
                  iexact H1
  isplitl [H2]; · iexists (feed m c).k; isplitr; · ipureintro; rfl
                  iexact H2
  isplitl [H3]; · iexists (feed m c).v; isplitr; · ipureintro; rfl
                  iexact H3
  isplitl [H4]; · iexists (shards m).wo c; isplitr; · ipureintro; rfl
                  iexact H4
  iexists f
  isplitr; · ipureintro; exact hf
  iexact H5

/-- A run keeps what it does not touch, and what it leaves may be weakened. -/
theorem wp_keep {α : Type} (p : Prog (TpuEff nD τ sig (Elt F) Λ₀ .tc) α) (R : sProp 𝕄) {P : sProp 𝕄} {Q Q' : α → sProp 𝕄}
    (h : P ⊢ Wp c p Q) (hQ : ∀ a, iprop(Q a ∗ R) ⊢ Q' a) : iprop(P ∗ R) ⊢ Wp c p Q' :=
  (BI.sep_mono h (BI.Entails.refl _)).trans ((wp_frame_r _ _ _).trans (wp_mono _ _ _ hQ))

/-- The body at its point: entered with its windows fetched, it leaves the result's window at `finish`. -/
theorem body_at : (pre0 m c : sProp 𝕄) ⊢ Wp c (body F) (fun _ => post0 m c) := by
  unfold pre0
  simp only [before_0, before_1, before_2, before_3, before_4]
  iintro ⟨⟨Hop, Hg, Hp⟩, HO, ⟨%d0, %g0, %h0, H0⟩, ⟨%d1, %g1, %h1, H1⟩, ⟨%d2, %g2, %h2, H2⟩, ⟨%d3, %g3, %h3, H3⟩, ⟨%d4, %g4, %h4, H4⟩, ⟨%d5, %g5, -, H5⟩⟩
  subst h0 h1 h2 h3 h4
  ihave HO := (owes_at m c _ _ (owed_first m c)).1 $$ HO
  iapply (wp_keep c (body F) (iprop(∃ r, prngReg c r)) (run (shards m) (feed m c) c) (fun _ => body_out m c))
  isplitr [Hp]
  · unfold inputs
    isplitl [H0 H1 H2 H3 H4 H5]
    · isplitl [H0]; · iexact H0
      isplitl [H1]; · iexact H1
      isplitl [H2]; · iexact H2
      isplitl [H3]; · iexact H3
      isplitl [H4]; · iexact H4
      iexists g5
      isplitr; · ipureintro; exact trivial
      iexact H5
    isplitl [Hg]; · iexact Hg
    isplitl [Hop]; · iexact Hop
    iexact HO
  iexact Hp

set_option maxRecDepth 8000 in
/-- The library's body obligation. -/
theorem body_ob : BodyObligation (dat0 m c) (defs₀ (F := F)) 𝒱₀ () Set.univ := fun t => by
  obtain rfl := fin_N0 t
  rw [bigSep_W0, bigSep_W0]
  simp only [owns_whole]
  exact body_at m c

/-! ## The region's record -/

theorem kitP : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem debt₀_pos {g : GSem nD τ sig} {u : Unit} (h : 0 < debt₀ c g u) : u ∈ L g ∧ (0 : ℕ) < lv g u := by
  unfold debt₀ debt₁ at h
  simp only [Pi.add_apply, Finsupp.add_apply] at h
  rcases Nat.add_pos_iff_pos_or_pos.mp h with h | h
  · rcases Nat.add_pos_iff_pos_or_pos.mp h with h | h
    · obtain ⟨p, -, hp, rfl⟩ := debt_pos h
      exact ⟨by rw [L_tc]; exact Finset.mem_singleton_self _, by rw [lv_recv _ hp]; omega⟩
    · obtain ⟨rfl, -⟩ := Pipeline.tallyAt_pos h
      exact ⟨by rw [L_tc]; exact Finset.mem_singleton_self _, by rw [lv_bar]; decide⟩
  · obtain ⟨rfl, -⟩ := Pipeline.tallyAt_pos h
    exact ⟨by rw [L_tc]; exact Finset.mem_singleton_self _, by rw [lv_bar]; decide⟩

theorem cut_debt (t : Fin ((Pipeline.pin (pcfgs (F := F)) adm 0).N + 1)) (g : GSem nD τ sig) (i : Unit) (h : 0 < (pdats (F := F) m 0 c).owed t g i) :
    i ∈ L g ∧ (0 : ℕ) < lv g i := by
  rw [show (pdats (F := F) m 0 c).owed t = if t.val = 0 then debt₀ c else 0 from rfl] at h
  split at h
  · exact debt₀_pos c h
  · exact absurd h (Nat.lt_irrefl 0)

/-- The staging cells wait at the lowest level. -/
theorem stage_low (w : Fin cfg0.W) (s : Fin (cfg0.win w).nbuf) : lv ((c : Thread nD τ), .dma ((cfg0.win w).sem s)) () ≤ (0 : ℕ) := by
  match w, s with
  | ⟨0, _⟩, ⟨0, _⟩ => exact Nat.le_of_eq rfl
  | ⟨1, _⟩, ⟨0, _⟩ => exact Nat.le_of_eq rfl
  | ⟨2, _⟩, ⟨0, _⟩ => exact Nat.le_of_eq rfl
  | ⟨3, _⟩, ⟨0, _⟩ => exact Nat.le_of_eq rfl
  | ⟨4, _⟩, ⟨0, _⟩ => exact Nat.le_of_eq rfl
  | ⟨5, _⟩, ⟨0, _⟩ => exact Nat.le_of_eq rfl

/-- The buffers of the program that are not windows' arrays. -/
abbrev others : Finset (DevRef τ sig) := Pipeline.ucRefs τ sig \ Pipeline.arrRefs (τ := τ) spec0

theorem result_not : Proc.devRef .tc main_v17 ∉ others \ ∅ := by decide +kernel

theorem arrs_sub : Pipeline.arrRefs (τ := τ) spec0 ⊆ Pipeline.ucRefs τ sig := by decide +kernel

theorem phi_at (t : Fin (cfg0.N + 1)) : (dat0 m c).Φ t = if t.val = 0 then iprop(opened (shards m) c ∗ gathering c ∗ ∃ r, prngReg c r)
    else iprop(gathering c ∗ (∃ r, prngReg c r) ∗ Pipeline.ownSems0 osem c ∗ semVal (barCell c) 0) := rfl

theorem enter_region : iprop(Pipeline.scopedRest (Pipeline.pin (pcfgs (F := F)) adm 0).spec c ∗ (∃ r, prngReg c r) ∗ StableHlo.held (c.tc : Thread nD τ) ∅ (V1 m c) ∗ opened (shards m) c)
    ⊢ (pdats m 0 c).Φ 0 := by
  rw [show (pdats m 0 c).Φ 0 = iprop(opened (shards m) c ∗ gathering c ∗ ∃ r, prngReg c r) from (phi_at m c 0).trans (if_pos rfl)]
  iintro ⟨Hs, Hp, -, HX⟩
  isplitl [HX]; · iexact HX
  isplitl [Hs]
  · unfold gathering; iapply (Entails.of_eq (scopedRest0_eq c)); iexact Hs
  iexact Hp

theorem leave_region : (pdats m 0 c).Φ (Fin.last (Pipeline.pin (pcfgs (F := F)) adm 0).N)
    ⊢ iprop(Pipeline.scopedRest (Pipeline.pin (pcfgs (F := F)) adm 0).spec c ∗ (∃ r, prngReg c r) ∗ StableHlo.held (c.tc : Thread nD τ) ∅ (V2 m (outs m) c)
      ∗ Pipeline.ownSems0 osem c ∗ semVal (barCell c) 0) := by
  rw [show (pdats m 0 c).Φ (Fin.last _) = iprop(gathering c ∗ (∃ r, prngReg c r) ∗ Pipeline.ownSems0 osem c ∗ semVal (barCell c) 0) from
    (phi_at m c (Fin.last _)).trans (if_neg (by rw [Fin.val_last, show cfg0.N = 1 from N_0]; decide))]
  iintro ⟨Hg, Hp, Ho, Hb⟩
  isplitl [Hg]
  · iapply (Entails.of_eq (scopedRest0_eq c).symm); unfold gathering; iexact Hg
  isplitl [Hp]; · iexact Hp
  isplitr
  · unfold StableHlo.held; rw [BI.bigSep_empty]; iempintro
  isplitl [Ho] <;> iassumption

theorem arr_out (w : Fin cfg0.W) : (dat0 m c).arrAt w cfg0.N = V2 m (outs m) c (Proc.devRef .tc (Pipeline.arrRef cfg0.spec w)) := by
  match w with
  | ⟨0, _⟩ => exact ((dat0 m c).arrAt_in (0 : Fin 6) rfl _).trans (V2_of m (outs m) c main_arg0 (by decide)).symm
  | ⟨1, _⟩ => exact ((dat0 m c).arrAt_in (1 : Fin 6) rfl _).trans (V2_of m (outs m) c main_arg1 (by decide)).symm
  | ⟨2, _⟩ => exact ((dat0 m c).arrAt_in (2 : Fin 6) rfl _).trans (V2_of m (outs m) c main_v15 (by decide)).symm
  | ⟨3, _⟩ => exact ((dat0 m c).arrAt_in (3 : Fin 6) rfl _).trans (V2_of m (outs m) c main_v16 (by decide)).symm
  | ⟨4, _⟩ => exact ((dat0 m c).arrAt_in (4 : Fin 6) rfl _).trans (V2_of m (outs m) c main_arg4 (by decide)).symm
  | ⟨5, _⟩ => exact (after_5 m c).trans ((outs_main_v17 m c).symm.trans (show V2 m (outs m) c (Proc.devRef .tc main_v17) = outs m 2 main_v17 c from Function.update_self _ _ _).symm)

set_option backward.isDefEq.respectTransparency.types false in
/-- The kernel's region: entered with the program's buffers and what the launch brought, left with the result at `finish`. -/
def reg0 : Pipeline.RegionSeg (pcfgs (F := F)) adm (pdats m) () defs₀ 𝒱₀ L lv 0 :=
  Pipeline.RegionSeg.ofTalk (pcfgs (F := F)) adm (pdats m) () defs₀ 𝒱₀ L lv 0 osem (by decide +kernel : Pipeline.OwnSemFacts spec0 osem)
    ∅ others (Finset.empty_subset _) kitP rfl (fun c => (body_ob m c).loose)
    (fun _ => 0) debt₀ (fun c => (owed_zero m c).trans (zero_add _).symm) (owed_last m) (fun _ => rfl) (fun _ w => by unfold Dat.share; split <;> rfl)
    (V1 m) (V2 m (outs m)) (fun c b hb => Function.update_of_ne (fun e => result_not (by subst e; exact hb)) _ _)
    (brought (shards m)) (fun c => semVal (barCell c) 0) (opened (shards m)) (fun c => semVal (barCell c) 0) (enter (shards m)) (enter_region m) (leave_region m)
    (fun c => by iintro H; imodintro; iexact H)
    (fun _ => 0)
    ⟨fun c w s => by rw [L_tc]; exact Finset.mem_singleton_self _, fun c w s => stage_low c w s, fun c t g i h => cut_debt m c t g i h⟩
    (fun _ => iprop(emp))
    (fun _ _ => rfl) (arr_out m)

/-- What the launch hands a device beside the program's buffers. -/
def start (c : Dev nD) : sProp 𝕄 := iprop(brought (shards m) c ∗ (∃ r, prngReg c r) ∗ ∃ W, owes (c : Thread nD τ) (debt₀ c) W)
def stop (c : Dev nD) : sProp 𝕄 := iprop(semVal (barCell c) 0 ∗ ∃ W, owes (c : Thread nD τ) (0 : CellTallies nD τ sig Unit) W)

theorem reg0_pre : iprop(StableHlo.held (c : Thread nD τ) (Pipeline.ucRefs τ sig) (V1 m c) ∗ start m c) ⊢ (reg0 m).pre c := by
  show _ ⊢ iprop(StableHlo.held (c.tc : Thread nD τ) (Pipeline.arrRefs (τ := τ) spec0) (V1 m c) ∗ (∃ r, prngReg c r)
    ∗ (StableHlo.held (c.tc : Thread nD τ) others (V1 m c) ∗ emp) ∗ brought (shards m) c ∗ ∃ Wd, owes (c : Thread nD τ) (0 + debt₀ c) Wd)
  rw [zero_add, StableHlo.held_sub_split (c.tc : Thread nD τ) arrs_sub (V1 m c)]
  unfold start
  iintro ⟨⟨Ha, Hr⟩, HT, Hp, HO⟩
  isplitl [Ha]; · iexact Ha
  isplitl [Hp]; · iexact Hp
  isplitl [Hr]
  · isplitl [Hr]; · iexact Hr
    iempintro
  isplitl [HT] <;> iassumption

theorem reg0_post : (reg0 m).post c ⊢ iprop(StableHlo.held (c : Thread nD τ) (Pipeline.ucRefs τ sig) (V2 m (outs m) c) ∗ stop c) := by
  show iprop(StableHlo.held (c.tc : Thread nD τ) (Pipeline.arrRefs (τ := τ) spec0) (V2 m (outs m) c) ∗ (∃ r, prngReg c r)
    ∗ (StableHlo.held (c.tc : Thread nD τ) others (V2 m (outs m) c) ∗ emp) ∗ semVal (barCell c) 0 ∗ ∃ Wd, owes (c : Thread nD τ) (0 : CellTallies nD τ sig Unit) Wd) ⊢ _
  rw [StableHlo.held_sub_split (c.tc : Thread nD τ) arrs_sub (V2 m (outs m) c)]
  unfold stop
  iintro ⟨Ha, -, ⟨Hr, -⟩, Hb, HO⟩
  isplitl [Ha Hr]; · isplitl [Ha] <;> iassumption
  isplitl [Hb] <;> iassumption

end Cert.KernelIdeal.Own
-- ==== Proof.Ideal.Deal.lean ====
/-
  What the launch deals to the devices: rights to open cells, duty tokens, and the credit of what the others owe.
-/
module

public import proofs.«01_k».proof.Proof.Ideal.End

@[expose] public section

noncomputable section

namespace Cert.KernelIdeal.Own

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig Unit (Elt F) ℕ UU ℕ

variable (A : Weights F) (c : Dev nD)

/-! ## Cells by device and position -/

/-- Over the copies' own cells: device by device, each position's send and receive cell. -/
theorem by_position (Φ : GSem nD τ sig → sProp 𝕄) :
    bigSep scCells Φ = bigSep Finset.univ fun c : Dev nD => bigSep (Finset.Ico 0 14) fun p => iprop(Φ (sendCell c p) ∗ Φ (recvCell c p)) := by
  rw [bigSep_map, bigSep_univ_prod]
  refine bigSep_congr fun c _ => ?_
  rw [show (bigSep Finset.univ fun k : Fin 28 => Φ (scEmb (c, k)))
      = bigSep Finset.univ fun k : Fin 28 => (fun i : ℕ => Φ ((c : Thread nD τ), if i < 14 then .dma (sS i) else .dma (rS (i - 14)))) k.val from rfl,
    bigSep_fin_Ico 28 (fun i : ℕ => Φ ((c : Thread nD τ), if i < 14 then .dma (sS i) else .dma (rS (i - 14)))),
    bigSep_cut (b := 14) (by decide) (by decide), show Finset.Ico 14 28 = Finset.Ico 14 (14 + 14) from rfl, bigSep_shift, bigSep_sep']
  refine congrArg₂ (fun P Q : sProp 𝕄 => iprop(P ∗ Q)) (bigSep_congr fun p hp => ?_) (bigSep_congr fun p hp => ?_)
  · rw [if_pos (Finset.mem_Ico.mp hp).2]
  · rw [if_neg (by omega), show 14 + p - 14 = p from by omega]

theorem by_device (Φ : GSem nD τ sig → sProp 𝕄) : bigSep barCells Φ = bigSep Finset.univ fun c : Dev nD => Φ (barCell c) :=
  bigSep_map (s := Finset.univ) barEmb (Φ := Φ)

theorem osem_ne_bar : ∀ k : Fin 28, osem k ≠ .reg barS := by decide
theorem disjoint_cells : Disjoint (barCells : Finset (GSem nD τ sig)) scCells := by
  rw [Finset.disjoint_left]
  rintro g h₁ h₂
  obtain ⟨c, -, rfl⟩ := Finset.mem_map.mp h₁
  obtain ⟨ck, -, h⟩ := Finset.mem_map.mp h₂
  exact osem_ne_bar ck.2 (congrArg Prod.snd h)

/-! ## The tokens -/

def barToks : Finset (GSem nD τ sig × ℕ × Bool) :=
  Finset.univ.map ⟨fun cb : Dev nD × Bool => (barCell cb.1, 0, cb.2), fun _ _ h =>
    Prod.ext (congrArg (fun t : GSem nD τ sig × ℕ × Bool => t.1.1.1) h) (congrArg (fun t : GSem nD τ sig × ℕ × Bool => t.2.2) h)⟩
def scToks : Finset (GSem nD τ sig × ℕ × Bool) := scCells.map ⟨fun g => (g, 0, true), fun _ _ h => congrArg Prod.fst h⟩
/-- Both duties of every barrier, and the one duty of every send and receive cell. -/
def toks : Finset (GSem nD τ sig × ℕ × Bool) := barToks ∪ scToks

theorem disjoint_toks : Disjoint barToks scToks := by
  rw [Finset.disjoint_left]
  intro t h₁ h₂
  obtain ⟨cb, -, rfl⟩ := Finset.mem_map.mp h₁
  obtain ⟨g, hg, h⟩ := Finset.mem_map.mp h₂
  have e : g = barCell cb.1 := congrArg Prod.fst h
  subst e
  exact Finset.disjoint_left.mp disjoint_cells (Finset.mem_map_of_mem barEmb (Finset.mem_univ cb.1)) hg

/-- The duties device c pays at the barriers of its neighbours, and at the cells of position p. -/
def gateToks : sProp 𝕄 := iprop(dutyTok ER (barCell (left c)) 0 true ∗ dutyTok ER (barCell (right c)) 0 false)
def posToks (p : ℕ) : sProp 𝕄 := iprop(dutyTok ER (recvCell (tgt c p) p) 0 true ∗ dutyTok ER (sendCell c p) 0 true)

theorem around : (bigSep Finset.univ fun c : Dev nD => iprop(dutyTok ER (barCell c) 0 true ∗ dutyTok ER (barCell c) 0 false) : sProp 𝕄)
    = bigSep Finset.univ fun c : Dev nD => gateToks c := by
  unfold gateToks
  rw [bigSep_sep', bigSep_sep']
  exact congrArg₂ (fun P Q : sProp 𝕄 => iprop(P ∗ Q)) (bigSep_univ_equiv ring.symm (fun c : Dev nD => (dutyTok ER (barCell c) 0 true : sProp 𝕄)))
    (bigSep_univ_equiv ring (fun c : Dev nD => (dutyTok ER (barCell c) 0 false : sProp 𝕄)))

theorem bar_toks : (bigSep barToks fun x => (dutyTok ER x.1 x.2.1 x.2.2 : sProp 𝕄)) ⊢ bigSep Finset.univ fun c : Dev nD => gateToks c := by
  rw [← around]
  unfold barToks
  rw [bigSep_map, bigSep_univ_prod]
  refine bigSep_mono fun c _ => ?_
  rw [show (Finset.univ : Finset Bool) = {true, false} from by decide, bigSep_insert (by decide), bigSep_singleton]
  exact BI.Entails.refl _

theorem by_turns (Φ : Dev nD → ℕ → sProp 𝕄) : (bigSep Finset.univ fun c : Dev nD => bigSep (Finset.Ico 0 14) fun p => Φ c p)
    = bigSep Finset.univ fun p : Fin 14 => bigSep Finset.univ fun c : Dev nD => Φ c p.val := by
  rw [bigSep_univ_comm]
  exact bigSep_congr fun c _ => (bigSep_fin_Ico 14 (Φ c)).symm

theorem sc_toks : (bigSep scToks fun x => (dutyTok ER x.1 x.2.1 x.2.2 : sProp 𝕄))
    ⊢ bigSep Finset.univ fun c : Dev nD => bigSep (Finset.Ico 0 14) (posToks c) := by
  unfold scToks posToks
  rw [bigSep_map, by_position]
  have e : (bigSep Finset.univ fun c : Dev nD => bigSep (Finset.Ico 0 14) fun p => (dutyTok ER (recvCell c p) 0 true : sProp 𝕄))
      = bigSep Finset.univ fun c : Dev nD => bigSep (Finset.Ico 0 14) fun p => (dutyTok ER (recvCell (tgt c p) p) 0 true : sProp 𝕄) := by
    rw [by_turns, by_turns]
    exact bigSep_congr fun p _ => bigSep_univ_equiv (⟨(tgt · p), (frm · p), (frm_tgt · p), (tgt_frm · p)⟩ : Dev nD ≃ Dev nD)
      (fun c : Dev nD => (dutyTok ER (recvCell c p) 0 true : sProp 𝕄))
  simp only [bigSep_sep']
  rw [← e]
  iintro ⟨H1, H2⟩
  isplitl [H2]; · iexact H2
  iexact H1

theorem deal_toks : (bigSep toks fun x => (dutyTok ER x.1 x.2.1 x.2.2 : sProp 𝕄))
    ⊢ bigSep Finset.univ fun c : Dev nD => iprop(gateToks c ∗ bigSep (Finset.Ico 0 14) (posToks c)) := by
  unfold toks
  rw [bigSep_union disjoint_toks, bigSep_sep']
  exact BI.sep_mono bar_toks sc_toks

/-! ## The launch credit -/

theorem recv_inj {c d : Dev nD} {p q : ℕ} (hp : p < 14) (hq : q < 14) (h : recvCell c p = recvCell d q) : c = d ∧ p = q := by
  refine ⟨congrArg (fun g : GSem nD τ sig => g.1.1) h, ?_⟩
  have := congrArg (fun g : GSem nD τ sig => kind g.2) h
  simp only [kind_recv hp, kind_recv hq] at this
  injection this

theorem recv_ne_bar {c d : Dev nD} {p : ℕ} (hp : p < 14) : recvCell c p ≠ barCell d := fun h => by
  have := congrArg (fun g : GSem nD τ sig => kind g.2) h
  simp only [kind_recv hp, kind_bar] at this
  injection this

theorem debt_at_bar (d c : Dev nD) (n : ℕ) : debt d n (barCell c) () = 0 := by
  rcases Nat.eq_zero_or_pos (debt d n (barCell c) ()) with h | h
  · exact h
  · obtain ⟨p, -, hp, e⟩ := debt_pos h
    exact absurd e.symm (recv_ne_bar hp)

theorem owed_bar (d c : Dev nD) : debt₀ d (barCell c) () = (if d = left c then 1 else 0) + (if d = right c then 1 else 0) := by
  unfold debt₀ debt₁
  simp only [Pi.add_apply, Finsupp.add_apply, debt_at_bar, tallyAt_apply, Nat.zero_add, and_true]
  have hl : (barCell c = barCell (right d)) ↔ d = left c :=
    ⟨fun h => by have e : c = right d := congrArg (fun g : GSem nD τ sig => g.1.1) h
                 rw [e, left_right], fun h => by rw [h, right_left]⟩
  have hr : (barCell c = barCell (left d)) ↔ d = right c :=
    ⟨fun h => by have e : c = left d := congrArg (fun g : GSem nD τ sig => g.1.1) h
                 rw [e, right_left], fun h => by rw [h, left_right]⟩
  simp only [hl, hr]

theorem owed_recv (d c : Dev nD) {p : ℕ} (hp : p < 14) : debt₀ d (recvCell c p) () = if d = frm c p then N else 0 := by
  unfold debt₀ debt₁ debt
  simp only [Pi.add_apply, Finsupp.add_apply, tallyAt_ne_cell (recv_ne_bar hp), Finsupp.zero_apply, Nat.add_zero, Finset.sum_apply, Finsupp.finset_sum_apply]
  rw [Finset.sum_eq_single p]
  · rw [tallyAt_apply]
    refine if_congr ?_ rfl rfl
    exact ⟨fun h => by rw [(recv_inj hp hp h.1).1, frm_tgt], fun h => ⟨by rw [h, tgt_frm], rfl⟩⟩
  · intro q hq hne
    rw [tallyAt_apply]
    exact if_neg fun h => hne (recv_inj hp (Finset.mem_Ico.mp hq).2 h.1).2.symm
  · intro h; exact absurd (Finset.mem_Ico.mpr ⟨Nat.zero_le _, hp⟩) h

theorem launch_bar : tallyOn (barCell c) (launchCredit (Pipeline.owing debt₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (left c) fun _ => 1, Finset.sum_ite_eq' Finset.univ (right c) fun _ => 1, if_pos (Finset.mem_univ _), if_pos (Finset.mem_univ _)]

theorem launch_recv {p : ℕ} (hp : p < 14) :
    tallyOn (recvCell c p) (launchCredit (Pipeline.owing debt₀) 0 (recvCell c p)) = (tallyAt (recvCell c p) () N : CellTallies nD τ sig Unit) := by
  unfold tallyAt; refine congrArg _ (Finsupp.ext fun u => ?_); cases u
  rw [Pipeline.launchCredit_owing, Finsupp.single_eq_same, Finset.sum_congr rfl fun d _ => owed_recv d c hp, Finset.sum_ite_eq' Finset.univ (frm c p) fun _ => N,
    if_pos (Finset.mem_univ _)]

theorem rS_inj : Function.Injective (fun p : Fin 14 => (SemLoc.dma (rS p) : SemLoc sig)) := by decide

/-- The credits a device's waits consume: two at its barrier, a transfer's worth at each receive cell. -/
theorem creds : (Pipeline.launchCred debt₀ c : sProp 𝕄)
    ⊢ iprop(cred (tallyAt (barCell c) () 2) ∗ bigSep (Finset.Ico 0 14) fun p => cred (tallyAt (recvCell c p) () N)) := by
  unfold Pipeline.launchCred
  rw [bigSep_univ_at _ (SemLoc.reg barS), launch_bar]
  refine BI.sep_mono (BI.Entails.refl _) ?_
  have hsub : (Finset.univ.map ⟨_, rS_inj⟩ : Finset (SemLoc sig)) ⊆ Finset.univ.erase (SemLoc.reg barS) := by decide
  refine Entails.trans (bigSep_subset hsub) ?_
  rw [bigSep_map, ← bigSep_fin_Ico 14 (fun p => (cred (tallyAt (recvCell c p) () N) : sProp 𝕄))]
  exact bigSep_mono fun p _ => Entails.of_eq (congrArg cred (launch_recv c p.isLt))

end Cert.KernelIdeal.Own
-- ==== Proof.Ideal.Run.lean ====
/-
  The whole program: launched with zero counters, it ends with its arguments unchanged, its result at `finish` and every counter at zero.
-/
module

public import proofs.«01_k».proof.Proof.Ideal.Region
public import proofs.«01_k».proof.Proof.Ideal.Deal
public import Idealize.ShloMosaic.Harness.Basic
public import Idealize.ShloMosaic.Lib.StableHlo.RunHlo

@[expose] public section

noncomputable section

namespace Cert.KernelIdeal.Own

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (c : Dev nD)

/-! ## The launch -/

/-- The launch element: the staging cells', and the protocol's. -/
def u₀ : UU :=
  (initOf (Pipeline.cells (Pipeline.pin (pcfgs (F := F)) adm) cellOf_inj) (Pipeline.launchToks (Pipeline.pin (pcfgs (F := F)) adm) cellOf_inj),
    launchOf barCells scCells toks)

/-- The protocol's launch element, all of it with device 0 until it is dealt. -/
def G (c : Dev nD) : sProp 𝕄 := if c = 0 then BI.own (ER (launchOf barCells scCells toks)) else iprop(emp)
theorem G_all : (bigSep Finset.univ G : sProp 𝕄) ⊣⊢ BI.own (ER (launchOf barCells scCells toks)) := by
  rw [bigSep_univ_at _ (0 : Dev nD), bigSep_congr (s := Finset.univ.erase (0 : Dev nD)) (Ψ := fun _ => (BI.emp : sProp 𝕄))
      fun c hc => by unfold G; rw [if_neg (Finset.ne_of_mem_erase hc)]; rfl, BI.bigSep_emp_const]
  unfold G; rw [if_pos rfl]
  exact sep_emp

/-- What every device may consult: the invariants, and the barriers' first round. -/
def records (κ : GSem nD τ sig → ℕ) : sProp 𝕄 := iprop(invs (shards m) κ ∗ bigSep barCells fun g => reached ER g 0)
instance records_persistent (κ : GSem nD τ sig → ℕ) : BI.Persistent (records m κ) := by unfold records; infer_instance
theorem reached_at : (bigSep barCells fun g => (reached ER g 0 : sProp 𝕄)) ⊢ reached ER (barCell c) 0 :=
  bigSep_elim (Finset.mem_map_of_mem barEmb (Finset.mem_univ c))

/-- The two rights to open a position's cells. -/
def rights (p : ℕ) : sProp 𝕄 := iprop(openTok ER (sendCell c p) ∗ openTok ER (recvCell c p))

/-- What is dealt to device c alone. -/
def dealt : sProp 𝕄 :=
  iprop(atPos ER (barCell c) 0 ∅ 0 ∗ bigSep (Finset.Ico 0 14) (rights c) ∗ (gateToks c ∗ bigSep (Finset.Ico 0 14) (posToks c)))
/-- What c has of its own from the launch. -/
def bundle : sProp 𝕄 :=
  iprop(StableHlo.held (c : Thread nD τ) (Pipeline.ucRefs τ sig) (V0 m c)
    ∗ (cred (tallyAt (barCell c) () 2) ∗ bigSep (Finset.Ico 0 14) fun p => cred (tallyAt (recvCell c p) () N))
    ∗ owes (c : Thread nD τ) (debt₀ c) ∅ ∗ ∃ r, prngReg c r)

abbrev T₀ (c : Dev nD) : sProp 𝕄 := iprop(StableHlo.held (c : Thread nD τ) (Pipeline.ucRefs τ sig) (V0 m c) ∗ start m c)
abbrev T₁ (c : Dev nD) : sProp 𝕄 := iprop(StableHlo.held (c : Thread nD τ) (Pipeline.ucRefs τ sig) (V2 m (outs m) c) ∗ semVal (barCell c) 0)

theorem start_intro (κ : GSem nD τ sig → ℕ) : iprop(records m κ ∗ (dealt c ∗ bundle m c)) ⊢ (T₀ m c : sProp 𝕄) := by
  unfold records dealt bundle T₀ start brought gate gateToks barWait
  iintro ⟨⟨#Hinv, #Hr⟩, ⟨Hat, Ho, ⟨HtL, HtR⟩, Hp⟩, Hh, ⟨Hb, Hc⟩, HO, Hprng⟩
  isplitl [Hh]; · iexact Hh
  isplitr [Hprng HO]
  · iexists κ
    isplitr; · iexact Hinv
    isplitl [Ho Hp Hc]
    · iapply (show iprop(bigSep (Finset.Ico 0 14) (posToks c) ∗ bigSep (Finset.Ico 0 14) (rights c)
          ∗ bigSep (Finset.Ico 0 14) fun p => cred (tallyAt (recvCell c p) () N)) ⊢ (bigSep (Finset.Ico 0 14) (sealed c) : sProp 𝕄) from
        Entails.of_eq (by rw [← bigSep_sep', ← bigSep_sep']; rfl))
      isplitl [Hp]; · iexact Hp
      isplitl [Ho] <;> iassumption
    isplitl [HtL HtR]
    · isplitl [HtL]
      · isplitl [HtL]; · iexact HtL
        iapply (reached_at (F := F) (left c)); iexact Hr
      · isplitl [HtR]; · iexact HtR
        iapply (reached_at (F := F) (right c)); iexact Hr
    isplitl [Hb] <;> iassumption
  isplitl [Hprng]; · iexact Hprng
  iexists ∅; iexact HO

theorem unscopedSems0_eq : (unscopedSems0 c : sProp 𝕄) = semVal (barCell c) 0 := by
  unfold unscopedSems0
  rw [show (Finset.univ.filter fun sm : SemLoc sig => ¬ sm.isScoped .tc) = {SemLoc.reg barS} from by decide, BI.bigSep_singleton]

theorem own_share : iprop(unscopedBufs c (fun b => m ((c : Thread nD τ).loc b)) ∗ unscopedSems0 c
      ∗ owes (c : Thread nD τ) (debt₀ c) ∅ ∗ Pipeline.launchCred debt₀ c ∗ prngReg c (ρ c) ∗ G c)
    ⊢ (iprop(bundle m c ∗ (semVal (barCell c) 0 ∗ G c)) : sProp 𝕄) := by
  rw [show unscopedBufs c (fun b => m ((c : Thread nD τ).loc b)) = StableHlo.held (c : Thread nD τ) (Pipeline.ucRefs τ sig) (V0 m c) from
    Pipeline.unscopedBufs_held c (V0 m c), unscopedSems0_eq]
  unfold bundle
  iintro ⟨Hh, Hus, HO, Hcr, Hp, HG⟩
  ihave Hc := (creds c) $$ Hcr
  isplitl [Hh Hc HO Hp]
  · isplitl [Hh]; · iexact Hh
    isplitl [Hc]; · iexact Hc
    isplitl [HO]; · iexact HO
    iexists (ρ c); iexact Hp
  isplitl [Hus] <;> iassumption

/-- The launch deals everything. -/
theorem init :
    iprop((bigSep Finset.univ fun c : Dev nD => iprop(unscopedBufs c (fun b => m ((c : Thread nD τ).loc b)) ∗ unscopedSems0 c
          ∗ owes (c : Thread nD τ) (debt₀ c) ∅ ∗ Pipeline.launchCred debt₀ c ∗ prngReg c (ρ c) ∗ G c)) ∗ levAts L lv)
      ⊢ (|={Set.univ}=> bigSep Finset.univ (T₀ m) : sProp 𝕄) := by
  iintro ⟨H, -⟩
  ihave H := (show (bigSep Finset.univ fun c : Dev nD => iprop(unscopedBufs c (fun b => m ((c : Thread nD τ).loc b)) ∗ unscopedSems0 c
          ∗ owes (c : Thread nD τ) (debt₀ c) ∅ ∗ Pipeline.launchCred debt₀ c ∗ prngReg c (ρ c) ∗ G c))
      ⊢ (iprop(bigSep Finset.univ (bundle m) ∗ bigSep Finset.univ (fun c : Dev nD => semVal (barCell c) 0) ∗ bigSep Finset.univ G) : sProp 𝕄) from by
    rw [← bigSep_sep', ← bigSep_sep']; exact bigSep_mono fun c _ => own_share m ρ c) $$ H
  icases H with ⟨HB, Hv, HG⟩
  ihave Hu := (G_all (F := F)).1 $$ HG
  imod (Rounds.fund_launch ER (ringRd (shards m)) disjoint_cells (fun g _ h => h) toks) $$ [Hv Hu] with ⟨%κ, -, #Hinv, #Hr, Hat, Hopen, Htok⟩
  · isplitl [Hv]
    · iapply (Entails.of_eq (by_device (F := F) (fun g => semVal g 0)).symm); iexact Hv
    · iexact Hu
  imodintro
  iapply (bigSep_with_persistent (R := records m κ) (Φ := fun c => iprop(dealt c ∗ bundle m c)) fun c _ => start_intro m c κ)
  isplitr
  · unfold records invs
    isplitr; · iexact Hinv
    iexact Hr
  iapply (show iprop((bigSep Finset.univ (fun c : Dev nD => atPos ER (barCell c) 0 ∅ 0) ∗ bigSep Finset.univ (fun c : Dev nD => bigSep (Finset.Ico 0 14) (rights c))
        ∗ bigSep Finset.univ fun c : Dev nD => iprop(gateToks c ∗ bigSep (Finset.Ico 0 14) (posToks c))) ∗ bigSep Finset.univ (bundle m))
      ⊢ (bigSep Finset.univ fun c : Dev nD => iprop(dealt c ∗ bundle m c) : sProp 𝕄) from
    Entails.of_eq (by rw [bigSep_sep']; unfold dealt; simp only [bigSep_sep']))
  isplitr [HB]
  · isplitl [Hat]; · iapply (Entails.of_eq (by_device (F := F) (fun g => atPos ER g 0 ∅ 0))); iexact Hat
    isplitl [Hopen]; · iapply (Entails.of_eq (by_position (F := F) (fun g => openTok ER g))); iexact Hopen
    iapply (deal_toks (F := F)); iexact Htok
  · iexact HB

/-! ## The run -/

/-- What rides beside the buffers before and after the kernel. -/
def ride : Fin 2 → Dev nD → sProp 𝕄 | 0 => start m | 1 => stop

theorem unscoped_eq : ∀ sm : SemLoc sig, sm.isScoped .tc = false → sm = .reg barS := by decide

/-- What a device's memory and barrier are at the end. -/
def ends (c : Dev nD) (s : MemSt nD τ sig (Elt F)) : Prop :=
  (∀ b ∈ Pipeline.ucRefs τ sig, s.mem ((c : Thread nD τ).1, b) = V2 m (outs m) c b) ∧ s.sem (barCell c) = 0

theorem ends_at {b : Ref sig .tc} (hb : ¬ (Proc.devRef (τ := τ) .tc b).isScoped = true) {s : MemSt nD τ sig (Elt F)} (h : ends m c s) :
    s.mem ((c : Thread nD τ).loc b) = V2 m (outs m) c (Proc.devRef .tc b) :=
  h.1 _ (Finset.mem_filter.mpr ⟨StableHlo.devRef_mem_tcRefs b, hb⟩)

theorem T₁_ends (s' : Phys nD τ sig (Elt F)) : iprop(T₁ m c ∗ SI s') ⊢ (|={Set.univ}=> iprop(⌜ends m c s'.mem⌝ ∗ SI s') : sProp 𝕄) := by
  unfold T₁ StableHlo.held
  iintro ⟨⟨Hh, Hb⟩, HSI⟩
  icombine HSI Hb gives %hb
  ihave Hr := (pointsTo_read_all (Pipeline.ucRefs τ sig) (fun b => ((c : Thread nD τ).1, b)) (V2 m (outs m) c) s') $$ [Hh HSI]
  · isplitl [Hh] <;> iassumption
  icases Hr with ⟨%h, HSI⟩
  imodintro
  isplitr
  · ipureintro
    exact ⟨h, by simpa using hb⟩
  · iexact HSI

set_option backward.isDefEq.respectTransparency.types false in
/-- From any memory with zero counters, every fair execution of the program on the eight devices ends; every final memory has the
    arguments as launched and the result at `finish`, and every counter of the machine is zero. -/
theorem run_main : θ_run defs (onTc (τ := τ) (main (F := F))) ⟨m, fun _ => 0, ρ⟩ (fun r => (∀ c, ends m c r.2) ∧ r.2.sem = fun _ => 0) :=
  Pipeline.θ_run_regions_kit_dev_sems (pcfgs (F := F)) adm (pdats m) () cellOf_inj EP defs₀ 𝒱₀ L lv m ρ main
    (segs m 𝒱₀ L lv (ride m) () (pdats m) (reg0 m))
    (fun c Q => by
      rewrite [main_chain c, Pipeline.Seg.run_eq_chain,
        show (segs m 𝒱₀ L lv (ride m) () (pdats m) (reg0 m) c).map Pipeline.Seg.prog = [
          StableHlo.seq (hostOps0 c),
          Prog.lift (.customCall (Pipeline.entry 0) ()) ] from rfl]
      dsimp (config := { failIfUnchanged := false }) only
      exact BI.Entails.refl _)
    (fun c => by simp only [segs, Pipeline.Seg.pipes_host, Pipeline.Seg.pipes_region, Pipeline.Seg.pipes_nil]; decide)
    (O₀ := debt₀) (hL := L_of_ne) (G := G) (u₀ := u₀ (F := F))
    (hu₀ := by
      unfold u₀
      iintro Hu
      ihave H := (ownU_pair _ _) $$ Hu
      icases H with ⟨HP, HX⟩
      imodintro
      isplitl [HP]; · iexact HP
      iapply (G_all (F := F)).2; iexact HX)
    (T₀ := T₀ m) (Tₙ := T₁ m)
    (hch := fun c => ⟨BI.Entails.refl _, reg0_pre m c, (reg0_post m c).trans (by
      unfold stop T₁
      iintro ⟨Hh, Hb, HO⟩
      isplitr [HO]
      · isplitl [Hh] <;> iassumption
      · iexact HO)⟩)
    (hinit := init m ρ)
    (QY := fun c s => ends m c s)
    (hfin := fun c s' => T₁_ends m c s')
    (hQ := fun s h hs => ⟨h, sem_eq_zero hs fun c sm hsm => by
        obtain rfl := unscoped_eq sm hsm
        exact (h c).2⟩)

/-- The same with the final memory read off: the arguments unchanged, the result at `finish`. -/
theorem run_values : θ_run defs (onTc (τ := τ) (main (F := F))) ⟨m, fun _ => 0, ρ⟩ (fun r => (∀ c : Dev nD,
      (r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4))
      ∧ r.2.mem ((c.tc : Thread nD τ).loc main_v17) = finish m c) ∧ r.2.sem = fun _ => 0) :=
  θ_run_mono (run_main m ρ) fun r h => ⟨fun c =>
    ⟨⟨(ends_at m c (by decide) (h.1 c)).trans (V2_main_arg0 m (outs m) c), (ends_at m c (by decide) (h.1 c)).trans (V2_main_arg1 m (outs m) c),
      (ends_at m c (by decide) (h.1 c)).trans (V2_main_arg2 m (outs m) c), (ends_at m c (by decide) (h.1 c)).trans (V2_main_arg3 m (outs m) c),
      (ends_at m c (by decide) (h.1 c)).trans (V2_main_arg4 m (outs m) c)⟩,
     (ends_at m c (by decide) (h.1 c)).trans ((show V2 m (outs m) c (Proc.devRef .tc main_v17) = outs m 2 main_v17 c from Function.update_self _ _ _).trans (outs_main_v17 m c))⟩, h.2⟩

end Cert.KernelIdeal.Own
-- ==== Proof.Value.Keep.lean ====
/-
  The kernel's mask at a pair of positions.
-/
module

public import proofs.«01_k».proof.Proof.Ideal.Math
public import Idealize.ShloMosaic.Lib.Pointwise

@[expose] public section

noncomputable section

namespace Cert.KernelIdeal.Own

open Cert.KernelIdeal Cert.KernelIdeal.Gen
open Idealize.ShloMosaic

/-- A position's stretch of 64, as the rows' payload computes it. -/
theorem stretch_row (i j : Fin 256) : k0_pay1 (ix2 i j) = BitVec.ofNat 32 (i.val / 64) := by
  pointwise [k0_pay1]
  revert i; decide +kernel

/-- The mask keeps a pair of positions when the two lie in the same stretch of 64. -/
theorem keep_apply (i j : Fin 256) : keep (ix3 0 i j) = if i.val / 64 = j.val / 64 then 1#1 else 0#1 := by
  have hj : keep (ix3 0 i j) = IntOp.cmpi .eq (k0_pay1 (ix2 i j)) (BitVec.ofNat 32 (j.val / 64)) := by
    generalize hp : k0_pay1 = p
    pointwise [keep, k0_pay5, k0_pay2, k0_pay3, k0_pay4]
    rw [hp]
    congr 1
    clear hp
    revert j; decide +kernel
  rw [hj, stretch_row]
  have hi : i.val / 64 < 4 := by omega
  have hj : j.val / 64 < 4 := by omega
  generalize i.val / 64 = a at hi ⊢
  generalize j.val / 64 = b at hj ⊢
  interval_cases a <;> interval_cases b <;> decide

end Cert.KernelIdeal.Own
-- ==== Proof.Value.Spec.lean ====
/-
  Block-diagonal attention over the extended reals, index by index: what both programs compute.
-/
module

public import Idealize.ShloMosaic.Lib.Pointwise

@[expose] public section

noncomputable section

namespace Cert.Attention

open Idealize.ShloMosaic

/-- The score of position i against position j: the scaled product of its query with j's key where both lie in the same
    stretch of 64, a very small number elsewhere. -/
def score (i : Fin 256) (q : Fin 64 → EReal) (k : Fin 256 → Fin 64 → EReal) (j : Fin 256) : EReal :=
  if i.val / 64 = j.val / 64 then (∑ e : Fin 64, q e * k j e) * Ideal.ofBits .f32 0x3E000000#32 else Ideal.ofBits .f32 0xCE6E6B28#32

/-- The exponential of a score against the greatest of its row. -/
def lift (s : Fin 256 → EReal) (j : Fin 256) : EReal :=
  Ideal.exp (s j - Finset.univ.fold max (Ideal.ofBits .f32 0xFF800000#32) s)

/-- The weight of a score in its row. -/
def weight (s : Fin 256 → EReal) (j : Fin 256) : EReal := Ideal.div (lift s j) (∑ l : Fin 256, lift s l)

/-- One coordinate of one head's attention at position i. -/
def attend (i : Fin 256) (q : Fin 64 → EReal) (k v : Fin 256 → Fin 64 → EReal) (e : Fin 64) : EReal :=
  ∑ j : Fin 256, weight (score i q k) j * v j e

/-- Coordinate e of head h among the heads laid side by side. -/
abbrev col (h : Fin 32) (e : Fin 64) : Fin 2048 := ⟨64 * h.val + e.val, by have := h.isLt; have := e.isLt; omega⟩

/-- What one head adds to one output: its attention through its rows of the output weights. -/
def headTerm (i : Fin 256) (x : Fin 512 → EReal) (wq : Fin 512 → Fin 64 → EReal) (k v : Fin 256 → Fin 64 → EReal) (wo : Fin 64 → EReal) : EReal :=
  ∑ e : Fin 64, attend i (fun e => ∑ l : Fin 512, x l * wq l e) k v e * wo e

/-- The output at batch entry b, position i, column n: the sum over the heads. -/
def output (x : Fin 16 → Fin 256 → Fin 512 → EReal) (wq : Fin 512 → Fin 2048 → EReal) (k v : Fin 16 → Fin 256 → Fin 32 → Fin 64 → EReal)
    (wo : Fin 2048 → Fin 512 → EReal) (b : Fin 16) (i : Fin 256) (n : Fin 512) : EReal :=
  ∑ h : Fin 32, headTerm i (x b i) (fun l e => wq l (col h e)) (fun j e => k b j h e) (fun j e => v b j h e) (fun e => wo (col h e) n)

/-- A sum over the columns is a sum over heads and their coordinates. -/
theorem sum_cols (f : Fin 2048 → EReal) : ∑ l, f l = ∑ h : Fin 32, ∑ e : Fin 64, f (col h e) := by
  rw [← (finProdFinEquiv (m := 32) (n := 64)).sum_comp f, Fintype.sum_prod_type]
  refine Finset.sum_congr rfl fun h _ => Finset.sum_congr rfl fun e _ => congrArg f (Fin.ext ?_)
  show e.val + 64 * h.val = 64 * h.val + e.val
  omega

/-- A sum over the heads is a sum over chunks of four. -/
theorem sum_heads (f : Fin 32 → EReal) :
    ∑ h, f h = ∑ d : Fin 8, ∑ r : Fin 4, f ⟨4 * d.val + r.val, by have := d.isLt; have := r.isLt; omega⟩ := by
  rw [← (finProdFinEquiv (m := 8) (n := 4)).sum_comp f, Fintype.sum_prod_type]
  refine Finset.sum_congr rfl fun h _ => Finset.sum_congr rfl fun e _ => congrArg f (Fin.ext ?_)
  show e.val + 4 * h.val = 4 * h.val + e.val
  omega

end Cert.Attention
-- ==== Proof.Value.Head.lean ====
/-
  What one head adds to the kernel's accumulator, over the extended reals, index by index.
-/
module

public import proofs.«01_k».proof.Proof.Value.Keep
public import proofs.«01_k».proof.Proof.Value.Spec

@[expose] public section

noncomputable section

namespace Cert.KernelIdeal.Own

open Cert.KernelIdeal Cert.KernelIdeal.Gen
open Idealize.ShloMosaic Cert.Attention

/-- Position i of batch entry b among the rows laid one entry after the other. -/
abbrev row (b : Fin 2) (i : Fin 256) : Fin 512 := ⟨256 * b.val + i.val, by have := b.isLt; have := i.isLt; omega⟩

variable (q : FVec Ideal S512x64 .bf16) (k v : FVec Ideal S1x2x256x64 .bf16) (wo : FVec Ideal S1x64x512 .bf16)
  (s : FVec Ideal S2x256x256 .f32) (b : Fin 2) (i j : Fin 256) (n : Fin 512) (e : Fin 64)

theorem scores_apply : scores q k (ix3 b i j) = score i (fun e => q (ix2 (row b i) e)) (fun j e => k (ix4 0 b j e)) j := by
  pointwise [scores]
  rw [keep_apply]
  unfold score
  have hq : ∀ (h : b.val * 256 + i.val < 512) (e : Fin 64), q (ix2 ⟨b.val * 256 + i.val, h⟩ e) = q (ix2 (row b i) e) := fun h e =>
    congrArg (fun z => q (ix2 z e)) (Fin.ext (by simp only [row]; omega))
  simp only [hq]
  split <;> rfl

theorem expRow_apply : expRow s (ix3 b i j) = lift (fun j => s (ix3 b i j)) j := by
  pointwise [expRow]
  rfl

theorem weights_apply : weights (expRow s) (ix3 b i j) = weight (fun j => s (ix3 b i j)) j := by
  generalize hl : expRow s = l
  pointwise [weights]
  rw [← hl]
  simp only [expRow_apply]
  unfold weight
  rfl

/-- A head's term: its attention through its rows of the output weights. -/
theorem headOut_apply : headOut q k v wo (ix2 (row b i) n)
    = ∑ e : Fin 64, attend i (fun e => q (ix2 (row b i) e)) (fun j e => k (ix4 0 b j e)) (fun j e => v (ix4 0 b j e)) e * wo (ix3 0 e n) := by
  generalize hw : weights (expRow (scores q k)) = w
  have h1 : (row b i).val / 256 = b.val := by have := i.isLt; simp only [row]; omega
  have h2 : (row b i).val % 256 = i.val := by have := i.isLt; simp only [row]; omega
  pointwise [headOut]
  rw [hw]
  simp only [h1, h2]
  refine Finset.sum_congr rfl fun e _ => congrArg (· * wo (ix3 0 e n)) ?_
  unfold attend
  refine Finset.sum_congr rfl fun j _ => congrArg (· * v (ix4 0 b j e)) ?_
  rw [← hw]
  refine (weights_apply _ b i j).trans ?_
  simp only [scores_apply]

end Cert.KernelIdeal.Own
-- ==== Proof.Value.Sum.lean ====
/-
  The kernel's accumulator over the extended reals: the sum of its heads' terms.
-/
module

public import proofs.«01_k».proof.Proof.Value.Head

@[expose] public section

noncomputable section

namespace Cert.KernelIdeal.Own

open Cert.KernelIdeal Cert.KernelIdeal.Gen
open Idealize.ShloMosaic Cert.Attention

variable (A : Weights Ideal) (X : Inputs Ideal) (d c : Dev nD) (h : Fin 4) (b : Fin 2) (i j : Fin 256) (n : Fin 512) (l : Fin 512) (e : Fin 64)

/-- Coordinate e of head h among a chunk's four heads laid side by side. -/
abbrev sub (h : Fin 4) (e : Fin 64) : Fin 256 := ⟨64 * h.val + e.val, by have := h.isLt; have := e.isLt; omega⟩

theorem queries_apply (x : FVec Ideal S2x256x512 .bf16) (wq : FVec Ideal S512x256 .bf16) (z : Fin 256) :
    queries x wq (ix2 (row b i) z) = ∑ l : Fin 512, x (ix3 b i l) * wq (ix2 l z) := by
  have h1 : (row b i).val / 256 = b.val := by have := i.isLt; simp only [row]; omega
  have h2 : (row b i).val % 256 = i.val := by have := i.isLt; simp only [row]; omega
  pointwise [queries, k0_pay11, k0_pay6, k0_pay7]
  simp only [h1, h2]

theorem slice_apply (q : FVec Ideal S512x256 .bf16) (r : Fin 512) :
    extractStridedSlice S512x64 ![0, 64 * h.val] q (slicesHead h) (ix2 r e) = q (ix2 r (sub h e)) := by
  unfold extractStridedSlice
  refine congrArg q (funext fun a => Fin.ext ?_)
  match a with
  | 0 => exact Nat.zero_add _
  | 1 => rfl

theorem rowOf_apply (f : FVec Ideal S32x2x256x64 .bf16) (g : Fin 32) : rowOf (F := Ideal) f g (ix4 0 b j e) = f (ix4 g b j e) := by
  unfold rowOf
  refine congrArg f (funext fun a => Fin.ext ?_)
  rw [Rect.emb_apply]
  match a with
  | 0 => exact (congrArg (g.val + ·) (Nat.mul_zero 1)).trans (Nat.add_zero _)
  | 1 => exact (Nat.zero_add _).trans (Nat.one_mul _)
  | 2 => exact (Nat.zero_add _).trans (Nat.one_mul _)
  | 3 => exact (Nat.zero_add _).trans (Nat.one_mul _)

theorem headRows_apply (f : FVec Ideal S256x512 .bf16) : headRows (F := Ideal) f h (ix3 0 e n) = f (ix2 (sub h e) n) := by
  have hx : headIdx h (ix3 0 e n) = ix3 0 (sub h e) n := by
    funext a
    match a with
    | 0 => rfl
    | 1 => rfl
    | 2 => rfl
  unfold headRows
  rw [hx]
  pointwise [k0_pay9, k0_pay8]

/-- One head's term, of a device's inputs and a chunk's weights. -/
def part (g : Dev nD) (h : Fin 4) : EReal :=
  headTerm i (fun l => X.x (ix3 b i l)) (fun l e => A.wq g (ix2 l (sub h e))) (fun j e => X.k (ix4 (headOf g h) b j e))
    (fun j e => X.v (ix4 (headOf g h) b j e)) (fun e => A.wo g (ix2 (sub h e) n))

theorem addHead_apply (a : FVec Ideal S512x512 .f32) :
    addHead A X d h a (ix2 (row b i) n) = a (ix2 (row b i) n) + part A X b i n d h := by
  unfold addHead
  rw [addf_apply, Ideal.addf_def, headOut_apply]
  refine congrArg (a (ix2 (row b i) n) + ·) ?_
  unfold part headTerm
  simp only [slice_apply, queries_apply, rowOf_apply, headRows_apply]

theorem addChunk_apply (a : FVec Ideal S512x512 .f32) :
    addChunk A X d a (ix2 (row b i) n) = a (ix2 (row b i) n) + ∑ h : Fin 4, part A X b i n d h := by
  unfold addChunk
  simp only [addHead_apply, Fin.sum_univ_four, add_assoc]

theorem acc_apply (p : ℕ) : acc A X c p (ix2 (row b i) n) = ∑ q ∈ Finset.range p, ∑ h : Fin 4, part A X b i n (schunk c (q + 1)) h := by
  induction p with
  | zero =>
    rw [Finset.sum_range_zero]
    show k0_pay10 (F := Ideal) (ix2 (row b i) n) = 0
    pointwise [k0_pay10]
  | succ p ih => rw [Finset.sum_range_succ, ← ih]; exact addChunk_apply A X _ b i n _

/-- What device c computes, at an index: the sum over all chunks and their heads. -/
theorem result_apply : result A X c (ix3 b i n) = ∑ g : Fin 8, ∑ h : Fin 4, part A X b i n g h := by
  have hr : result A X c (ix3 b i n) = acc A X c 8 (ix2 (row b i) n) := by
    generalize hz : acc A X c 8 = z
    pointwise [result]
    rw [hz]
    exact congrArg (fun t => z (ix2 t n)) (Fin.ext (by simp only [row]; omega))
  rw [hr, acc_apply, Finset.sum_range]
  exact (schunk_bij c).sum_comp fun g => ∑ h : Fin 4, part A X b i n g h

end Cert.KernelIdeal.Own
-- ==== Proof.Value.HostRows.lean ====
/-
  What the host operations before the kernel hand it: the device's own two batch entries of the keys and of the values.
-/
module

public import proofs.«01_k».proof.Proof.Ideal.Region
public import Idealize.ShloMosaic.Lib.Pointwise
public import Idealize.ShloMosaic.Lib.DynamicIndex
public import Idealize.ShloMosaic.Lib.StableHlo.RunClose

@[expose] public section

noncomputable section

namespace Cert.KernelIdeal.Own

open Cert.KernelIdeal Cert.KernelIdeal.Gen
open Idealize.ShloMosaic Idealize.ShloMosaic.TcCoe Idealize.ShloMosaic.StableHlo

/-- Twice the device's number, as the host computes it. -/
def twice (c : Dev nD) : IVec S_ 32 := muli (constantI S_ 32 2#32) (id (Host.remui (Host.divui (constantI S_ 32 (Dev.word c)) (constantI S_ 32 1#32)) (constantI S_ 32 8#32)))

/-- The first of the device's batch entries, counted from the end were it negative. -/
def first (c : Dev nD) : IVec S_ 32 := select (cmpi .slt (twice c) (constantI S_ 32 0#32)) (addi (twice c) (constantI S_ 32 16#32)) (twice c)

/-- The device's two batch entries of an array, its heads first. -/
def ownRows (f : FVec Ideal S16x256x32x64 .bf16) (c : Dev nD) : FVec Ideal S32x2x256x64 .bf16 :=
  transpose S32x2x256x64 [2, 0, 1, 3] (Host.dynamicSlice S2x256x32x64 f
    (fun k => ((![first c, constantI S_ 32 0#32, constantI S_ 32 0#32, constantI S_ 32 0#32] : Fin 4 → IVec S_ 32) k (Shape.Idx.first h_S_)).toInt)
    sliceFits_S16x256x32x64_S2x256x32x64) transposes_S2x256x32x64_S32x2x256x64_2_0_1_3

theorem first_apply (c : Dev nD) (i : S_.Idx) : first c i = BitVec.ofNat 32 (2 * c.val) := by
  pointwise [first, twice, id]
  revert c; decide +kernel

theorem ownRows_apply (f : FVec Ideal S16x256x32x64 .bf16) (c : Dev nD) (h : Fin 32) (b : Fin 2) (j : Fin 256) (e : Fin 64) :
    ownRows f c (ix4 h b j e) = f (ix4 ⟨2 * c.val + b.val, by have h1 : c.val < 8 := c.isLt; have := b.isLt; omega⟩ j h e) := by
  have hd : S16x256x32x64.Slices ![2 * c.val, 0, 0, 0] S2x256x32x64 := by revert c; decide
  unfold ownRows
  rw [Host.dynamicSlice_eq_extractStridedSlice _ f _ ![2 * c.val, 0, 0, 0] _ hd]
  · pointwise
  · intro a
    match a with
    | 0 =>
      show (first c (Shape.Idx.first h_S_)).toInt = _
      rw [first_apply]; revert c; decide
    | 1 => rfl
    | 2 => rfl
    | 3 => rfl

variable (m : (ℓ : Loc nD τ sig) → Buf (Elt Ideal) ℓ) (c : Dev nD)

theorem feed_k : (feed m c).k = ownRows (m ((c.tc : Thread nD τ).loc main_arg2)) c := by
  show V1 m c main_v15 = _
  after_results_simp_entrywise
  rfl

theorem feed_v : (feed m c).v = ownRows (m ((c.tc : Thread nD τ).loc main_arg3)) c := by
  show V1 m c main_v16 = _
  after_results_simp_entrywise
  rfl

end Cert.KernelIdeal.Own
-- ==== Proof.Value.Bridge.lean ====
/-
  The kernel's result on a device is the device's block of attention's output of the whole arrays.
-/
module

public import proofs.«01_k».proof.Proof.Value.Sum
public import proofs.«01_k».proof.Proof.Value.HostRows
public import Idealize.ShloMosaic.Lib.Layout

@[expose] public section

noncomputable section

namespace Cert.KernelIdeal.Own

open Cert.KernelIdeal Cert.KernelIdeal.Gen
open Idealize.ShloMosaic Idealize.ShloMosaic.TcCoe Cert.Attention

/-- Batch entry b of device c among all the batch entries. -/
abbrev entry (c : Dev nD) (b : Fin 2) : Fin 16 := ⟨2 * c.val + b.val, by have h1 : c.val < 8 := c.isLt; have := b.isLt; omega⟩

/-- A device's block of an array cut into batch entries. -/
theorem block_entries {α : Type} (f : (⟨3, ![16, 256, 512]⟩ : Shape).Idx → α) (c : Dev nD) (b : Fin 2) (i : Fin 256) (n : Fin 512) :
    Layout.block ⟨3, ![2, 256, 512]⟩ ⟨3, ![16, 256, 512]⟩ 0 8 c f (by decide) (ix3 b i n) = f (ix3 (entry c b) i n) := by
  rw [Layout.block_apply]
  refine congrArg f (funext fun a => Fin.ext ?_)
  rw [Layout.Tiles.idx_val]
  match a with
  | 0 => exact congrArg (· + b.val) (Nat.mul_comm c.val 2)
  | 1 => rfl
  | 2 => rfl

/-- A device's block of an array cut into columns, at a coordinate of one of the device's heads. -/
theorem block_cols {α : Type} (f : (⟨2, ![512, 2048]⟩ : Shape).Idx → α) (c : Dev nD) (l : Fin 512) (h : Fin 4) (e : Fin 64) :
    Layout.block ⟨2, ![512, 256]⟩ ⟨2, ![512, 2048]⟩ 1 8 c f (by decide) (ix2 l (sub h e)) = f (ix2 l (col (headOf c h) e)) := by
  rw [Layout.block_apply]
  refine congrArg f (funext fun a => Fin.ext ?_)
  rw [Layout.Tiles.idx_val]
  match a with
  | 0 => rfl
  | 1 =>
    show c.val * 256 + (64 * h.val + e.val) = 64 * (4 * c.val + h.val) + e.val
    omega

/-- The same of an array cut into rows. -/
theorem block_rows {α : Type} (f : (⟨2, ![2048, 512]⟩ : Shape).Idx → α) (c : Dev nD) (n : Fin 512) (h : Fin 4) (e : Fin 64) :
    Layout.block ⟨2, ![256, 512]⟩ ⟨2, ![2048, 512]⟩ 0 8 c f (by decide) (ix2 (sub h e) n) = f (ix2 (col (headOf c h) e) n) := by
  rw [Layout.block_apply]
  refine congrArg f (funext fun a => Fin.ext ?_)
  rw [Layout.Tiles.idx_val]
  match a with
  | 0 =>
    show c.val * 256 + (64 * h.val + e.val) = 64 * (4 * c.val + h.val) + e.val
    omega
  | 1 => rfl

variable (m : (ℓ : Loc nD τ sig) → Buf (Elt Ideal) ℓ)
  (x : FVec Ideal ⟨3, ![16, 256, 512]⟩ .bf16) (wq : FVec Ideal ⟨2, ![512, 2048]⟩ .bf16) (k v : FVec Ideal S16x256x32x64 .bf16)
  (wo : FVec Ideal ⟨2, ![2048, 512]⟩ .bf16)

/-- Where every device holds its part of the whole arrays, its result is attention's output at its batch entries. -/
theorem finish_apply
    (h : ∀ c : Dev nD, m ((c.tc : Thread nD τ).loc main_arg0) = Layout.block ⟨3, ![2, 256, 512]⟩ ⟨3, ![16, 256, 512]⟩ 0 8 c x
      ∧ m ((c.tc : Thread nD τ).loc main_arg1) = Layout.block ⟨2, ![512, 256]⟩ ⟨2, ![512, 2048]⟩ 1 8 c wq
      ∧ m ((c.tc : Thread nD τ).loc main_arg2) = k
      ∧ m ((c.tc : Thread nD τ).loc main_arg3) = v
      ∧ m ((c.tc : Thread nD τ).loc main_arg4) = Layout.block ⟨2, ![256, 512]⟩ ⟨2, ![2048, 512]⟩ 0 8 c wo)
    (c : Dev nD) (b : Fin 2) (i : Fin 256) (n : Fin 512) :
    finish m c (ix3 b i n) = output (fun b i l => x (ix3 b i l)) (fun l z => wq (ix2 l z)) (fun b j h e => k (ix4 b j h e))
      (fun b j h e => v (ix4 b j h e)) (fun l n => wo (ix2 l n)) (entry c b) i n := by
  have hx : (feed m c).x = Layout.block ⟨3, ![2, 256, 512]⟩ ⟨3, ![16, 256, 512]⟩ 0 8 c x :=
    ((V1_of m c main_arg0 (by decide)).trans rfl).trans (h c).1
  have hq (g : Dev nD) : (shards m).wq g = Layout.block ⟨2, ![512, 256]⟩ ⟨2, ![512, 2048]⟩ 1 8 g wq :=
    ((V1_of m g main_arg1 (by decide)).trans rfl).trans (h g).2.1
  have ho (g : Dev nD) : (shards m).wo g = Layout.block ⟨2, ![256, 512]⟩ ⟨2, ![2048, 512]⟩ 0 8 g wo :=
    ((V1_of m g main_arg4 (by decide)).trans rfl).trans (h g).2.2.2.2
  have hk : (feed m c).k = ownRows k c := (feed_k m c).trans (congrArg (ownRows · c) (h c).2.2.1)
  have hv : (feed m c).v = ownRows v c := (feed_v m c).trans (congrArg (ownRows · c) (h c).2.2.2.1)
  unfold finish output
  rw [result_apply, sum_heads]
  refine Finset.sum_congr rfl fun g _ => Finset.sum_congr rfl fun r _ => ?_
  unfold part
  rw [hx, hk, hv]
  simp only [hq, ho, block_entries, block_cols, block_rows, ownRows_apply]

end Cert.KernelIdeal.Own
-- ==== Proof.Value.RefMask.lean ====
/-
  The reference's mask at a pair of positions.
-/
module

public import proofs.«01_k».proof.Proof.Gen.ReferenceIdeal
public import Idealize.ShloMosaic.Lib.Pointwise

@[expose] public section

noncomputable section

namespace Cert.ReferenceIdeal.Own

open Cert.ReferenceIdeal Cert.ReferenceIdeal.Gen
open Idealize.ShloMosaic

/-- The stretch of 64 that each position lies in: the position's floor quotient by 64. -/
def stretch : IVec S256 32 :=
  select (andi (cmpi .ne (signi (iotaInDim S256 32 0)) (broadcastInDim S256 ![] bcast_S_S256 (signi (id (constantI S_ 32 64#32)))))
      (cmpi .ne (Host.remsi (iotaInDim S256 32 0) (broadcastInDim S256 ![] bcast_S_S256 (id (constantI S_ 32 64#32)))) (broadcastInDim S256 ![] bcast_S_S256 (constantI S_ 32 0#32))))
    (subi (Host.divsi (iotaInDim S256 32 0) (broadcastInDim S256 ![] bcast_S_S256 (id (constantI S_ 32 64#32)))) (broadcastInDim S256 ![] bcast_S_S256 (constantI S_ 32 1#32)))
    (Host.divsi (iotaInDim S256 32 0) (broadcastInDim S256 ![] bcast_S_S256 (id (constantI S_ 32 64#32))))

/-- The divisor four, made one if it were zero. -/
def four : IVec S_ 32 := select (cmpi .eq (id (constantI S_ 32 4#32)) (constantI S_ 32 0#32)) (constantI S_ 32 1#32) (id (constantI S_ 32 4#32))

/-- The floor remainder by four of an array of numbers. -/
def modFour {s : Shape} (h : S_.BroadcastsInDim s ![]) (b : IVec s 32) : IVec s 32 :=
  select (andi (cmpi .ne (cmpi .slt (Host.remsi b (broadcastInDim s ![] h four)) (broadcastInDim s ![] h (constantI S_ 32 0#32)))
        (broadcastInDim s ![] h (cmpi .slt four (constantI S_ 32 0#32))))
      (cmpi .ne (Host.remsi b (broadcastInDim s ![] h four)) (broadcastInDim s ![] h (constantI S_ 32 0#32))))
    (addi (Host.remsi b (broadcastInDim s ![] h four)) (broadcastInDim s ![] h four))
    (Host.remsi b (broadcastInDim s ![] h four))

/-- The mask of the reference. -/
def mask : IVec S256x256 1 :=
  ori (cmpi .eq (broadcastInDim S256x256 ![0, 1] bcast_S256x1_S256x256_0_1 (broadcastInDim S256x1 ![0] bcast_S256_S256x1_0 stretch))
      (broadcastInDim S256x256 ![0, 1] bcast_S1x256_S256x256_0_1 (broadcastInDim S1x256 ![1] bcast_S256_S1x256_1 stretch)))
    (cmpi .eq (broadcastInDim S256x256 ![0, 1] bcast_S1x256_S256x256_0_1 (modFour bcast_S_S1x256 (broadcastInDim S1x256 ![1] bcast_S256_S1x256_1 stretch)))
      (broadcastInDim S256x256 ![0, 1] bcast_S256x1_S256x256_0_1 (modFour bcast_S_S256x1 (broadcastInDim S256x1 ![0] bcast_S256_S256x1_0 stretch))))

theorem stretch_apply (i : Fin 256) : stretch (ix1 i) = BitVec.ofNat 32 (i.val / 64) := by
  pointwise [stretch, id]
  revert i; decide +kernel

theorem modFour_row (i : Fin 256) :
    modFour bcast_S_S1x256 (broadcastInDim S1x256 ![1] bcast_S256_S1x256_1 stretch) (ix2 0 i) = BitVec.ofNat 32 (i.val / 64) := by
  pointwise [modFour, four, id]
  rw [stretch_apply]
  revert i; decide +kernel

theorem modFour_col (i : Fin 256) :
    modFour bcast_S_S256x1 (broadcastInDim S256x1 ![0] bcast_S256_S256x1_0 stretch) (ix2 i 0) = BitVec.ofNat 32 (i.val / 64) := by
  pointwise [modFour, four, id]
  rw [stretch_apply]
  revert i; decide +kernel

/-- The mask keeps a pair of positions when the two lie in the same stretch of 64. -/
theorem mask_apply (i j : Fin 256) : mask (ix2 i j) = if i.val / 64 = j.val / 64 then 1#1 else 0#1 := by
  pointwise [mask]
  rw [modFour_row, modFour_col, stretch_apply, stretch_apply]
  have hi : i.val / 64 < 4 := by omega
  have hj : j.val / 64 < 4 := by omega
  generalize i.val / 64 = a at hi ⊢
  generalize j.val / 64 = b at hj ⊢
  interval_cases a <;> interval_cases b <;> decide

/-- Every position keeps some other, itself at least. -/
theorem row_keep (i : Fin 256) :
    Host.reduce IntOp.ori mask (constantI S_ 1 0#1) reducesTo_S256x256_S256_d1 h_S_ (ix1 i) = 1#1 := by
  pointwise
  rw [← Finset.insert_erase (Finset.mem_univ i), Finset.fold_insert (Finset.notMem_erase _ _)]
  rw [mask_apply, if_pos rfl]
  exact (by decide : ∀ x : BitVec 1, IntOp.ori 1#1 x = 1#1) _

end Cert.ReferenceIdeal.Own
-- ==== Proof.Value.RefStages.lean ====
/-
  The reference over the extended reals, stage by stage, each read at an index.
-/
module

public import proofs.«01_k».proof.Proof.Value.RefMask
public import proofs.«01_k».proof.Proof.Value.Spec

@[expose] public section

noncomputable section

namespace Cert.ReferenceIdeal.Own

open Cert.ReferenceIdeal Cert.ReferenceIdeal.Gen
open Idealize.ShloMosaic Cert.Attention

/-- The queries, head by head. -/
def queries (x : FVec Ideal S16x256x512 .bf16) (wq : FVec Ideal S512x2048 .bf16) : FVec Ideal S16x256x32x64 .bf16 :=
  shapeCast S16x256x32x64 (truncf .bf16 (Host.dotGeneral dot_S16x256x512_S512x2048_S16x256x2048_2_0_01_1_n_n none x wq : FVec Ideal S16x256x2048 .f32) bitsLt_bf16_f32) shapeCasts_S16x256x2048_S16x256x32x64

/-- The masked scores. -/
def scores (q k : FVec Ideal S16x256x32x64 .bf16) : FVec Ideal S16x32x256x256 .f32 :=
  select (broadcastInDim S16x32x256x256 ![0, 1, 2, 3] bcast_S1x1x256x256_S16x32x256x256_0_1_2_3 (broadcastInDim S1x1x256x256 ![2, 3] bcast_S256x256_S1x1x256x256_2_3 mask))
    (mulf (extf .f32 (truncf .bf16 (Host.dotGeneral dot_S16x256x32x64_S16x256x32x64_S16x32x256x256_3_3_1_1_02_02 none q k : FVec Ideal S16x32x256x256 .f32) bitsLt_bf16_f32) bitsLt_bf16_f32)
      (broadcastInDim S16x32x256x256 ![] bcast_S_S16x32x256x256 (constant S_ .f32 0x3E000000#32)))
    (broadcastInDim S16x32x256x256 ![] bcast_S_S16x32x256x256 (id (constant S_ .f32 0xCE6E6B28#32)))

/-- The exponentials, each row against its greatest. -/
def lifts (s : FVec Ideal S16x32x256x256 .f32) : FVec Ideal S16x32x256x256 .f32 :=
  Host.exp (subf s (broadcastInDim S16x32x256x256 ![0, 1, 2, 3] bcast_S16x32x256x1_S16x32x256x256_0_1_2_3
    (broadcastInDim S16x32x256x1 ![0, 1, 2] bcast_S16x32x256_S16x32x256x1_0_1_2
      (Host.reduce FloatOps.maximumf s (constant S_ .f32 0xFF800000#32) reducesTo_S16x32x256x256_S16x32x256_d3 h_S_))))

/-- Which positions keep any score. -/
def kept : IVec S1x1x256x1 1 :=
  broadcastInDim S1x1x256x1 ![2] bcast_S256_S1x1x256x1_2 (Host.reduce IntOp.ori mask (constantI S_ 1 0#1) reducesTo_S256x256_S256_d1 h_S_)

/-- The weights. -/
def weights (e : FVec Ideal S16x32x256x256 .f32) : FVec Ideal S16x32x256x256 .f32 :=
  select (broadcastInDim S16x32x256x256 ![0, 1, 2, 3] bcast_S1x1x256x1_S16x32x256x256_0_1_2_3 kept)
    (Host.divf e (broadcastInDim S16x32x256x256 ![0, 1, 2, 3] bcast_S16x32x256x1_S16x32x256x256_0_1_2_3
      (select (broadcastInDim S16x32x256x1 ![0, 1, 2, 3] bcast_S1x1x256x1_S16x32x256x1_0_1_2_3 kept)
        (broadcastInDim S16x32x256x1 ![0, 1, 2] bcast_S16x32x256_S16x32x256x1_0_1_2 (Host.reduceAdd e (constant S_ .f32 0x00000000#32) reducesTo_S16x32x256x256_S16x32x256_d3 h_S_))
        (broadcastInDim S16x32x256x1 ![] bcast_S_S16x32x256x1 (id (constant S_ .f32 0x3F800000#32))))))
    (broadcastInDim S16x32x256x256 ![] bcast_S_S16x32x256x256 (id (constant S_ .f32 0x00000000#32)))

/-- The heads' attention, side by side. -/
def context (v : FVec Ideal S16x256x32x64 .bf16) (w : FVec Ideal S16x32x256x256 .f32) : FVec Ideal S16x256x2048 .f32 :=
  shapeCast S16x256x2048 (transpose S16x256x32x64 [0, 3, 1, 2]
    (Host.dotGeneral dot_S16x256x32x64_S16x32x256x256_S16x32x64x256_1_3_3_2_02_01 none (extf .f32 v bitsLt_bf16_f32) w : FVec Ideal S16x32x64x256 .f32)
    transposes_S16x32x64x256_S16x256x32x64_0_3_1_2) shapeCasts_S16x256x32x64_S16x256x2048

/-- The output. -/
def project (y : FVec Ideal S16x256x2048 .f32) (wo : FVec Ideal S2048x512 .bf16) : FVec Ideal S16x256x512 .f32 :=
  Host.dotGeneral dot_S16x256x2048_S2048x512_S16x256x512_2_0_01_1_n_n none y (extf .f32 wo bitsLt_bf16_f32)

variable (x : FVec Ideal S16x256x512 .bf16) (wq : FVec Ideal S512x2048 .bf16) (k v q : FVec Ideal S16x256x32x64 .bf16)
  (wo : FVec Ideal S2048x512 .bf16) (s w : FVec Ideal S16x32x256x256 .f32) (y : FVec Ideal S16x256x2048 .f32)
  (b : Fin 16) (i j : Fin 256) (h : Fin 32) (e : Fin 64) (n : Fin 512)

theorem queries_apply : queries x wq (ix4 b i h e) = ∑ l : Fin 512, x (ix3 b i l) * wq (ix2 l (col h e)) := by
  pointwise [queries]
  refine Finset.sum_congr rfl fun l _ => congrArg (fun z => x (ix3 b i l) * wq (ix2 l z)) (Fin.ext ?_)
  simp only [col]; omega

theorem scores_apply : scores q k (ix4 b h i j) = score i (fun e => q (ix4 b i h e)) (fun j e => k (ix4 b j h e)) j := by
  pointwise [scores, id]
  rw [mask_apply]
  unfold score
  split <;> rfl

theorem lifts_apply : lifts s (ix4 b h i j) = lift (fun j => s (ix4 b h i j)) j := by
  pointwise [lifts]
  rfl

theorem kept_apply : kept (ix4 0 0 i 0) = 1#1 := by
  unfold kept
  generalize hr : Host.reduce IntOp.ori mask (constantI S_ 1 0#1) reducesTo_S256x256_S256_d1 h_S_ = r
  pointwise
  rw [← hr, row_keep]

theorem weights_apply : weights (lifts s) (ix4 b h i j) = weight (fun j => s (ix4 b h i j)) j := by
  generalize hl : lifts s = l
  generalize hk : kept = z
  pointwise [weights, id]
  rw [hk]
  rw [← hk, kept_apply, ← hl]
  simp only [lifts_apply]
  unfold weight
  rfl

theorem context_apply : context v w (ix3 b i (col h e)) = ∑ j : Fin 256, w (ix4 b h i j) * v (ix4 b j h e) := by
  pointwise [context]
  have h1 : (col h e).val / 64 = h.val := by have := e.isLt; simp only [col]; omega
  have h2 : (col h e).val % 64 = e.val := by have := e.isLt; simp only [col]; omega
  refine Finset.sum_congr rfl fun j _ => ?_
  rw [mul_comm]
  simp only [h1, h2]

theorem project_apply : project y wo (ix3 b i n) = ∑ l : Fin 2048, y (ix3 b i l) * wo (ix2 l n) := by
  pointwise [project]

/-- The reference's output at an index. -/
theorem chain_apply : project (context v (weights (lifts (scores (queries x wq) k)))) wo (ix3 b i n)
    = output (fun b i l => x (ix3 b i l)) (fun l z => wq (ix2 l z)) (fun b j h e => k (ix4 b j h e)) (fun b j h e => v (ix4 b j h e)) (fun l n => wo (ix2 l n)) b i n := by
  rw [project_apply, sum_cols]
  unfold output headTerm attend
  refine Finset.sum_congr rfl fun h _ => Finset.sum_congr rfl fun e _ => ?_
  rw [context_apply]
  refine congrArg (· * wo (ix2 (col h e) n)) (Finset.sum_congr rfl fun j _ => ?_)
  rw [weights_apply]
  simp only [scores_apply, queries_apply]

end Cert.ReferenceIdeal.Own
-- ==== Proof.Value.RefValue.lean ====
/-
  What the reference's run leaves in its result, index by index.
-/
module

public import proofs.«01_k».proof.Proof.Value.RefStages
public import proofs.«01_k».proof.Proof.Gen.ReferenceIdeal.Run

@[expose] public section

noncomputable section

namespace Cert.ReferenceIdeal.Own

open Cert.ReferenceIdeal Cert.ReferenceIdeal.Gen
open Idealize.ShloMosaic Idealize.ShloMosaic.TcCoe Cert.Attention

variable (m : (ℓ : Loc nD τ sig) → Buf (Elt Ideal) ℓ) (c : Dev nD)

/-- The arguments as arrays. -/
def argX : FVec Ideal S16x256x512 .bf16 := m ((c.tc : Thread nD τ).loc main_arg0)
def argWq : FVec Ideal S512x2048 .bf16 := m ((c.tc : Thread nD τ).loc main_arg1)
def argK : FVec Ideal S16x256x32x64 .bf16 := m ((c.tc : Thread nD τ).loc main_arg2)
def argV : FVec Ideal S16x256x32x64 .bf16 := m ((c.tc : Thread nD τ).loc main_arg3)
def argWo : FVec Ideal S2048x512 .bf16 := m ((c.tc : Thread nD τ).loc main_arg4)

set_option maxRecDepth 8000 in
theorem res_eq : Value.res_out0 m c
    = project (context (argV m c) (weights (lifts (scores (queries (argX m c) (argWq m c)) (argK m c))))) (argWo m c) := by
  unfold Value.res_out0 Value.res_main_v44 project context weights kept lifts scores mask modFour four stretch queries argX argWq argK argV argWo
  rfl

/-- The reference's result at an index: attention's output of its arguments. -/
theorem res_apply (b : Fin 16) (i : Fin 256) (n : Fin 512) : Value.res_out0 m c (ix3 b i n)
    = output (fun b i l => argX m c (ix3 b i l)) (fun l z => argWq m c (ix2 l z)) (fun b j h e => argK m c (ix4 b j h e))
        (fun b j h e => argV m c (ix4 b j h e)) (fun l n => argWo m c (ix2 l n)) b i n := by
  rw [res_eq]
  exact chain_apply _ _ _ _ _ b i n

end Cert.ReferenceIdeal.Own
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Ideal.Run
public import proofs.«01_k».proof.Proof.Word.Run
public import proofs.«01_k».proof.Proof.Value.Bridge
public import proofs.«01_k».proof.Proof.Value.RefValue
public import Idealize.ShloMosaic.Adequacy
public import Idealize.ShloMosaic.Init

@[expose] public section

noncomputable section

namespace Cert.Proof

open Idealize.ShloMosaic Idealize.SL.Sem Cert.Kernel

/-- The kernel over machine words: its arguments end unchanged and every counter ends at zero. -/
theorem frame_kernel : Cert.quiescent_Kernel := fun m g _ =>
  θ_run_mono (Cert.Kernel.Own.run_values m g) fun _ h => ⟨fun c => (h.1 c).1, h.2⟩

/-- The same of the kernel over the extended reals. -/
theorem frame_ideal : Cert.quiescent_KernelIdeal := fun m g _ =>
  θ_run_mono (Cert.KernelIdeal.Own.run_values m g) fun _ h => ⟨fun c => (h.1 c).1, h.2⟩

/-- The reference ends with its arguments unchanged; it declares no semaphore, so every counter is zero. -/
theorem frame_reference : Cert.quiescent_ReferenceIdeal := fun m g _ =>
  θ_run_mono (Cert.ReferenceIdeal.Value.run m g) fun r h =>
    ⟨fun c => (h c).2, sem_eq_zero_of_no_sems (by decide) r.2⟩

/-- Device by device, the kernel over the extended reals leaves its block of what the reference leaves. -/
theorem value : Cert.algebraic_KernelIdeal_ReferenceIdeal := fun m g m' g' _ hagree =>
  ⟨Cert.ReferenceIdeal.Value.res_out0 m' 0,
    θ_run_mono (Cert.KernelIdeal.Own.run_values m g) fun _ h c =>
      ⟨(h.1 c).2.trans (funext fun j => by
          obtain ⟨b, i, n, rfl⟩ : ∃ (b : Fin 2) (i : Fin 256) (n : Fin 512), j = ix3 b i n := ⟨j 0, j 1, j 2, eq_ix3 j⟩
          exact (Cert.KernelIdeal.Own.finish_apply m _ _ _ _ _ hagree c b i n).trans
            ((Cert.KernelIdeal.Own.block_entries _ c b i n).trans (Cert.ReferenceIdeal.Own.res_apply m' 0 _ i n)).symm),
        (h.1 c).1⟩,
    θ_run_mono (Cert.ReferenceIdeal.Value.run m' g') fun _ h => h 0⟩

/-- All five claims. -/
theorem claim : Cert.Claim := ⟨Cert.Kernel.Gen.facts, Cert.KernelIdeal.Gen.facts, Cert.ReferenceIdeal.Gen.facts,
  frame_kernel, frame_ideal, frame_reference, trivial, value⟩

end Cert.Proof

end
